-- ==== Defs.lean ====
def Pre_Kernel [hPre_sizes_fit : Cert.Pre_sizes_fit.Facts] (m : (ℓ : Loc Cert.Kernel.nD Cert.Kernel.τ Cert.Kernel.sig) → Buf (Elt Bits) ℓ) : Prop :=
  ∀ c : Dev Cert.Kernel.nD,
    (Cert.Pre_sizes_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_sizes_fit : Cert.Pre_sizes_fit.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_fit [hPre_sizes_fit : Cert.Pre_sizes_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_sizes_fit : Cert.Pre_sizes_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_sizes_fit : Cert.Pre_sizes_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sizes_fit [hReferenceIdeal : Cert.ReferenceIdeal.Facts] [hPre_sizes_fit : Cert.Pre_sizes_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_fit : Cert.Pre_sizes_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sizes_fit : Cert.Pre_sizes_fit.Facts),
    quiescent_Kernel (hKernel := hKernel) (hPre_sizes_fit := hPre_sizes_fit)
    ∧ quiescent_KernelIdeal (hKernelIdeal := hKernelIdeal) (hPre_sizes_fit := hPre_sizes_fit)
    ∧ quiescent_ReferenceIdeal (hReferenceIdeal := hReferenceIdeal)
    ∧ quiescent_ReferenceIdeal_pre_sizes_fit (hReferenceIdeal := hReferenceIdeal) (hPre_sizes_fit := hPre_sizes_fit)
    ∧ preserves_Kernel_KernelIdeal
    ∧ algebraic_KernelIdeal_ReferenceIdeal (hKernelIdeal := hKernelIdeal) (hReferenceIdeal := hReferenceIdeal) (hPre_sizes_fit := hPre_sizes_fit)
-- ==== Pre_sizes_fit.lean ====
abbrev S8x7680x4096 : Shape := ⟨3, ![8, 7680, 4096]⟩
abbrev S8x7680 : Shape := ⟨2, ![8, 7680]⟩
abbrev S8 : Shape := ⟨1, ![8]⟩
abbrev S8x4096x4096 : Shape := ⟨3, ![8, 4096, 4096]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x7680x4096 .fp8e4m3) (main_arg1 : FVec F S8x7680 .f32) (main_arg2 : IVec S8 32) (main_arg3 : FVec F S8x4096x4096 .f32) (main_arg4 : IVec S8 32) : IVec S8 1 :=
  let main_c : IVec S_ 32 := constantI S_ 32 7680#32
  let main_v0 : IVec S8 32 := broadcastInDim S8 ![] bcast_S_S8 main_c
  let main_v1 : IVec S8 1 := cmpi .sle main_arg2 main_v0
  main_v1
-- ==== Kernel.lean ====
abbrev S8x7680x4096 : Shape := ⟨3, ![8, 7680, 4096]⟩
abbrev S8x7680 : Shape := ⟨2, ![8, 7680]⟩
abbrev S8 : Shape := ⟨1, ![8]⟩
abbrev S8x4096x4096 : Shape := ⟨3, ![8, 4096, 4096]⟩
abbrev S_ : Shape := ⟨0, ![]⟩
abbrev S8x7680x1 : Shape := ⟨3, ![8, 7680, 1]⟩
abbrev S1x7680x1024 : Shape := ⟨3, ![1, 7680, 1024]⟩
abbrev S1x7680x1 : Shape := ⟨3, ![1, 7680, 1]⟩
abbrev S1x1024x1024 : Shape := ⟨3, ![1, 1024, 1024]⟩
abbrev S1024x1024 : Shape := ⟨2, ![1024, 1024]⟩
abbrev S1 : Shape := ⟨1, ![1]⟩
abbrev S512x1 : Shape := ⟨2, ![512, 1]⟩
abbrev S1x512x1 : Shape := ⟨3, ![1, 512, 1]⟩
abbrev S1x512x1024 : Shape := ⟨3, ![1, 512, 1024]⟩
abbrev S512x1024 : Shape := ⟨2, ![512, 1024]⟩

abbrev nBuf : Space → Nat
  | .hbm => 13
  | .vmem => 11
  | .smem => 3
  | _ => 0

abbrev bufTy : (tb : Table) → Fin (tcTables nBuf tb) → BufTy
  | .hbm, ⟨0, _⟩ => ⟨S8x7680x4096, .fp8e4m3⟩
  | .hbm, ⟨1, _⟩ => ⟨S8x7680, .f32⟩
  | .hbm, ⟨2, _⟩ => ⟨S8x4096x4096, .f32⟩
  | .hbm, ⟨3, _⟩ => ⟨S8, .i32⟩
  | .hbm, ⟨4, _⟩ => ⟨S8, .i32⟩
  | .hbm, ⟨5, _⟩ => ⟨S8, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8x7680x1, .f32⟩
  | .hbm, ⟨12, _⟩ => ⟨S8x4096x4096, .f32⟩
  | .local _ .vmem, ⟨0, _⟩ => ⟨S1x7680x1024, .fp8e4m3⟩
  | .local _ .vmem, ⟨1, _⟩ => ⟨S1x7680x1024, .fp8e4m3⟩
  | .local _ .vmem, ⟨2, _⟩ => ⟨S1x7680x1024, .fp8e4m3⟩
  | .local _ .vmem, ⟨3, _⟩ => ⟨S1x7680x1024, .fp8e4m3⟩
  | .local _ .vmem, ⟨4, _⟩ => ⟨S1x7680x1, .f32⟩
  | .local _ .vmem, ⟨5, _⟩ => ⟨S1x7680x1, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1024x1024, .f32⟩
  | .local _ .smem, ⟨0, _⟩ => ⟨S8, .i32⟩
  | .local _ .smem, ⟨1, _⟩ => ⟨S8, .f32⟩
  | .local _ .smem, ⟨2, _⟩ => ⟨S8, .f32⟩
  | _, _ => ⟨S8x7680x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_arg2 : Ref sig .tc := ⟨.smem, 0, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_stg0_0 : Ref sig .tc := ⟨.smem, 1, rfl⟩
abbrev cc0_stg1_0 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 4, 4], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c0_i32 : BitVec 32 := 0#32
  let c511_i32 : BitVec 32 := 511#32
  let v6 : BitVec 32 := Scalar.addi v1 c511_i32
  let c512_i32 : BitVec 32 := 512#32
  let v7 : BitVec 32 := Scalar.divsi v6 c512_i32
  let v8 : BitVec 32 := Scalar.subi v7 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_2 : BitVec 32 := 1#32
  ⟨c0_i32, v12, c1_i32_2⟩

def k0_mult1 (v1 : BitVec 32) (k0_t1 : Fin (k0_t1_loop v1).trips) : BitVec 32 :=
  let c0_i32 : BitVec 32 := 0#32
  let c1_i32_2 : BitVec 32 := 1#32
  let arg12 : BitVec 32 := Scf.iv c0_i32 c1_i32_2 k0_t1
  let c512_i32_12 : BitVec 32 := 512#32
  let v30 : BitVec 32 := Scalar.muli arg12 c512_i32_12
  v30
def k0_off2 (v1 : BitVec 32) (k0_t1 : Fin (k0_t1_loop v1).trips) : Fin 3 → Nat :=
  let c0_13 : Index := 0#32
  let c0_i32 : BitVec 32 := 0#32
  let c1_i32_2 : BitVec 32 := 1#32
  let arg12 : BitVec 32 := Scf.iv c0_i32 c1_i32_2 k0_t1
  let c512_i32_12 : BitVec 32 := 512#32
  let v30 : BitVec 32 := Scalar.muli arg12 c512_i32_12
  let v31 : BitVec 32 := v30
  let v35 : Index := Scalar.indexCast v31
  let c0_14 : Index := 0#32
  ![0, v35.toNat, 0]
def k0_off3 (v1 : BitVec 32) (k0_t1 : Fin (k0_t1_loop v1).trips) : Fin 3 → Nat :=
  let c0_16 : Index := 0#32
  let c0_i32 : BitVec 32 := 0#32
  let c1_i32_2 : BitVec 32 := 1#32
  let arg12 : BitVec 32 := Scf.iv c0_i32 c1_i32_2 k0_t1
  let c512_i32_12 : BitVec 32 := 512#32
  let v30 : BitVec 32 := Scalar.muli arg12 c512_i32_12
  let v31 : BitVec 32 := v30
  let v45 : Index := Scalar.indexCast v31
  let c0_17 : Index := 0#32
  ![0, v45.toNat, 0]
@[reducible] def k0_t2_loop (v1 : BitVec 32) : Scf.Loop 32 :=
  let c0_i32 : BitVec 32 := 0#32
  let c511_i32 : BitVec 32 := 511#32
  let v6 : BitVec 32 := Scalar.addi v1 c511_i32
  let c512_i32 : BitVec 32 := 512#32
  let v7 : BitVec 32 := Scalar.divsi v6 c512_i32
  let v8 : BitVec 32 := Scalar.subi v7 c0_i32
  let c1_i32 : BitVec 32 := 1#32
  let v10 : BitVec 32 := Scalar.divsi v8 c1_i32
  let v11 : BitVec 32 := Scalar.muli v10 c1_i32
  let v12 : BitVec 32 := Scalar.addi c0_i32 v11
  let v9 : BitVec 32 := Scalar.addi c0_i32 v8
  let c1_i32_3 : BitVec 32 := 1#32
  ⟨v12, v9, c1_i32_3⟩
def k0_mult2 (v1 : BitVec 32) (k0_t2 : Fin (k0_t2_loop v1).trips) : BitVec 32 :=
  let c0_i32 : BitVec 32 := 0#32
  let c511_i32 : BitVec 32 := 511#32
  let v6 : BitVec 32 := Scalar.addi v1 c511_i32
  let c512_i32 : BitVec 32 := 512#32
  let v7 : BitVec 32 := Scalar.divsi v6 c512_i32
  let v8 : BitVec 32 := Scalar.subi v7 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_3 : BitVec 32 := 1#32
  let arg12 : BitVec 32 := Scf.iv v12 c1_i32_3 k0_t2
  let c512_i32_12 : BitVec 32 := 512#32
  let v30 : BitVec 32 := Scalar.muli arg12 c512_i32_12
  v30
def k0_off4 (v1 : BitVec 32) (k0_t2 : Fin (k0_t2_loop v1).trips) : Fin 3 → Nat :=
  let c0_13 : Index := 0#32
  let c0_i32 : BitVec 32 := 0#32
  let c511_i32 : BitVec 32 := 511#32
  let v6 : BitVec 32 := Scalar.addi v1 c511_i32
  let c512_i32 : BitVec 32 := 512#32
  let v7 : BitVec 32 := Scalar.divsi v6 c512_i32
  let v8 : BitVec 32 := Scalar.subi v7 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_3 : BitVec 32 := 1#32
  let arg12 : BitVec 32 := Scf.iv v12 c1_i32_3 k0_t2
  let c512_i32_12 : BitVec 32 := 512#32
  let v30 : BitVec 32 := Scalar.muli arg12 c512_i32_12
  let v31 : BitVec 32 := v30
  let v35 : Index := Scalar.indexCast v31
  let c0_14 : Index := 0#32
  ![0, v35.toNat, 0]
def k0_off5 (v1 : BitVec 32) (k0_t2 : Fin (k0_t2_loop v1).trips) : Fin 3 → Nat :=
  let c0_16 : Index := 0#32
  let c0_i32 : BitVec 32 := 0#32
  let c511_i32 : BitVec 32 := 511#32
  let v6 : BitVec 32 := Scalar.addi v1 c511_i32
  let c512_i32 : BitVec 32 := 512#32
  let v7 : BitVec 32 := Scalar.divsi v6 c512_i32
  let v8 : BitVec 32 := Scalar.subi v7 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_3 : BitVec 32 := 1#32
  let arg12 : BitVec 32 := Scf.iv v12 c1_i32_3 k0_t2
  let c512_i32_12 : BitVec 32 := 512#32
  let v30 : BitVec 32 := Scalar.muli arg12 c512_i32_12
  let v31 : BitVec 32 := v30
  let v45 : Index := Scalar.indexCast v31
  let c0_17 : Index := 0#32
  ![0, v45.toNat, 0]

def k0_chk1 (v1 : BitVec 32) : Prop :=
  ((k0_t1_loop v1).OK) ∧
  (∀ k0_t1 : Fin (k0_t1_loop v1).trips, 512 ∣ (k0_mult1 v1 k0_t1).toNat) ∧
  (∀ k0_t1 : Fin (k0_t1_loop v1).trips, ∀ a, (k0_off2 v1 k0_t1) a + S1x512x1.size a ≤ S1x7680x1.size a) ∧
  (∀ k0_t1 : Fin (k0_t1_loop v1).trips, ∀ a, (k0_off3 v1 k0_t1) a + S1x512x1024.size a ≤ S1x7680x1024.size a) ∧
  ((k0_t2_loop v1).OK) ∧
  (∀ k0_t2 : Fin (k0_t2_loop v1).trips, 512 ∣ (k0_mult2 v1 k0_t2).toNat) ∧
  (∀ k0_t2 : Fin (k0_t2_loop v1).trips, ∀ a, (k0_off4 v1 k0_t2) a + S1x512x1.size a ≤ S1x7680x1.size a) ∧
  (∀ k0_t2 : Fin (k0_t2_loop v1).trips, ∀ a, (k0_off5 v1 k0_t2) a + S1x512x1024.size a ≤ S1x7680x1024.size a)
theorem k0_t1_ok : ∀ (v1 : BitVec 32) (k0_hw1 : k0_chk1 v1), (k0_t1_loop v1).OK := fun v1 k0_hw1 => k0_hw1.1
theorem k0_mult1_dvd : ∀ (v1 : BitVec 32) (k0_hw1 : k0_chk1 v1) (k0_t1 : Fin (k0_t1_loop v1).trips), 512 ∣ (k0_mult1 v1 k0_t1).toNat := fun v1 k0_hw1 k0_t1 => k0_hw1.2.1 k0_t1
theorem k0_off2_inb : ∀ (v1 : BitVec 32) (k0_hw1 : k0_chk1 v1) (k0_t1 : Fin (k0_t1_loop v1).trips), ∀ a, (k0_off2 v1 k0_t1) a + S1x512x1.size a ≤ S1x7680x1.size a := fun v1 k0_hw1 k0_t1 => k0_hw1.2.2.1 k0_t1
theorem k0_off3_inb : ∀ (v1 : BitVec 32) (k0_hw1 : k0_chk1 v1) (k0_t1 : Fin (k0_t1_loop v1).trips), ∀ a, (k0_off3 v1 k0_t1) a + S1x512x1024.size a ≤ S1x7680x1024.size a := fun v1 k0_hw1 k0_t1 => k0_hw1.2.2.2.1 k0_t1
theorem k0_t2_ok : ∀ (v1 : BitVec 32) (k0_hw1 : k0_chk1 v1), (k0_t2_loop v1).OK := fun v1 k0_hw1 => k0_hw1.2.2.2.2.1
theorem k0_mult2_dvd : ∀ (v1 : BitVec 32) (k0_hw1 : k0_chk1 v1) (k0_t2 : Fin (k0_t2_loop v1).trips), 512 ∣ (k0_mult2 v1 k0_t2).toNat := fun v1 k0_hw1 k0_t2 => k0_hw1.2.2.2.2.2.1 k0_t2
theorem k0_off4_inb : ∀ (v1 : BitVec 32) (k0_hw1 : k0_chk1 v1) (k0_t2 : Fin (k0_t2_loop v1).trips), ∀ a, (k0_off4 v1 k0_t2) a + S1x512x1.size a ≤ S1x7680x1.size a := fun v1 k0_hw1 k0_t2 => k0_hw1.2.2.2.2.2.2.1 k0_t2
theorem k0_off5_inb : ∀ (v1 : BitVec 32) (k0_hw1 : k0_chk1 v1) (k0_t2 : Fin (k0_t2_loop v1).trips), ∀ a, (k0_off5 v1 k0_t2) a + S1x512x1024.size a ≤ S1x7680x1024.size a := fun v1 k0_hw1 k0_t2 => k0_hw1.2.2.2.2.2.2.2 k0_t2

def k0_off6 (i : grid0.Coords) : Fin 1 → Nat :=
  let arg0 : BitVec 32 := BitVec.ofNat 32 (i 0).val
  let v17 : Index := Scalar.indexCast arg0
  ![v17.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x7680x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x7680x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x7680x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S8x7680x4096 : Shape := ⟨3, ![8, 7680, 4096]⟩
abbrev S8x7680 : Shape := ⟨2, ![8, 7680]⟩
abbrev S8 : Shape := ⟨1, ![8]⟩
abbrev S8x4096x4096 : Shape := ⟨3, ![8, 4096, 4096]⟩
abbrev S8x7680x1 : Shape := ⟨3, ![8, 7680, 1]⟩
abbrev S7680 : Shape := ⟨1, ![7680]⟩
abbrev S1x7680 : Shape := ⟨2, ![1, 7680]⟩
abbrev S8x1 : Shape := ⟨2, ![8, 1]⟩
abbrev S_ : Shape := ⟨0, ![]⟩
abbrev S4096x4096 : Shape := ⟨2, ![4096, 4096]⟩
abbrev S8x1x1 : Shape := ⟨3, ![8, 1, 1]⟩

abbrev nBuf : Space → Nat
  | .hbm => 58
  | .vmem => 2
  | .smem => 0
  | _ => 0

abbrev bufTy : (tb : Table) → Fin (tcTables nBuf tb) → BufTy
  | .hbm, ⟨0, _⟩ => ⟨S8x7680x4096, .fp8e4m3⟩
  | .hbm, ⟨1, _⟩ => ⟨S8x7680, .f32⟩
  | .hbm, ⟨2, _⟩ => ⟨S8, .i32⟩
  | .hbm, ⟨3, _⟩ => ⟨S8x4096x4096, .f32⟩
  | .hbm, ⟨4, _⟩ => ⟨S8, .i32⟩
  | .hbm, ⟨5, _⟩ => ⟨S8x7680x4096, .bf16⟩
  | .hbm, ⟨6, _⟩ => ⟨S8x7680, .bf16⟩
  | .hbm, ⟨7, _⟩ => ⟨S8x7680x1, .bf16⟩
  | .hbm, ⟨8, _⟩ => ⟨S8x7680x4096, .bf16⟩
  | .hbm, ⟨9, _⟩ => ⟨S8x7680x4096, .bf16⟩
  | .hbm, ⟨10, _⟩ => ⟨S7680, .i32⟩
  | .hbm, ⟨11, _⟩ => ⟨S1x7680, .i32⟩
  | .hbm, ⟨12, _⟩ => ⟨S8x1, .i32⟩
  | .hbm, ⟨13, _⟩ => ⟨S8x7680, .i32⟩
  | .hbm, ⟨14, _⟩ => ⟨S8x7680, .i32⟩
  | .hbm, ⟨15, _⟩ => ⟨S8x7680, .i1⟩
  | .hbm, ⟨16, _⟩ => ⟨S8x7680x1, .i1⟩
  | .hbm, ⟨17, _⟩ => ⟨S_, .bf16⟩
  | .hbm, ⟨18, _⟩ => ⟨S8x7680x4096, .i1⟩
  | .hbm, ⟨19, _⟩ => ⟨S8x7680x4096, .bf16⟩
  | .hbm, ⟨20, _⟩ => ⟨S8x7680x4096, .bf16⟩
  | .hbm, ⟨21, _⟩ => ⟨S8x4096x4096, .f32⟩
  | .hbm, ⟨22, _⟩ => ⟨S4096x4096, .i32⟩
  | .hbm, ⟨23, _⟩ => ⟨S_, .i32⟩
  | .hbm, ⟨24, _⟩ => ⟨S4096x4096, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S8x4096x4096, .i1⟩
  | .hbm, ⟨29, _⟩ => ⟨S_, .f32⟩
  | .hbm, ⟨30, _⟩ => ⟨S8x4096x4096, .f32⟩
  | .hbm, ⟨31, _⟩ => ⟨S8x4096x4096, .f32⟩
  | .hbm, ⟨32, _⟩ => ⟨S4096x4096, .i32⟩
  | .hbm, ⟨33, _⟩ => ⟨S_, .i32⟩
  | .hbm, ⟨34, _⟩ => ⟨S4096x4096, .i32⟩
  | .hbm, ⟨35, _⟩ => ⟨S4096x4096, .i32⟩
  | .hbm, ⟨36, _⟩ => ⟨S4096x4096, .i32⟩
  | .hbm, ⟨37, _⟩ => ⟨S4096x4096, .i1⟩
  | .hbm, ⟨38, _⟩ => ⟨S8x4096x4096, .i1⟩
  | .hbm, ⟨39, _⟩ => ⟨S_, .f32⟩
  | .hbm, ⟨40, _⟩ => ⟨S8x4096x4096, .f32⟩
  | .hbm, ⟨41, _⟩ => ⟨S8x4096x4096, .f32⟩
  | .hbm, ⟨42, _⟩ => ⟨S8x4096x4096, .f32⟩
  | .hbm, ⟨43, _⟩ => ⟨S8x4096x4096, .f32⟩
  | .hbm, ⟨44, _⟩ => ⟨S8, .i32⟩
  | .hbm, ⟨45, _⟩ => ⟨S8, .f32⟩
  | .hbm, ⟨46, _⟩ => ⟨S8, .f32⟩
  | .hbm, ⟨47, _⟩ => ⟨S8, .f32⟩
  | .hbm, ⟨48, _⟩ => ⟨S8x1x1, .f32⟩
  | .hbm, ⟨49, _⟩ => ⟨S_, .f32⟩
  | .hbm, ⟨50, _⟩ => ⟨S8, .f32⟩
  | .hbm, ⟨51, _⟩ => ⟨S8, .f32⟩
  | .hbm, ⟨52, _⟩ => ⟨S8x1x1, .f32⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S8x4096x4096, .f32⟩
  | .local _ .vmem, ⟨0, _⟩ => ⟨S8x7680x4096, .fp8e4m3⟩
  | .local _ .vmem, ⟨1, _⟩ => ⟨S8x7680x4096, .bf16⟩
  | _, _ => ⟨S8x7680x4096, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_v12 : Ref sig .tc := ⟨.hbm, 20, rfl⟩
abbrev main_v13 : Ref sig .tc := ⟨.hbm, 21, rfl⟩
abbrev main_call1_v0 : Ref sig .tc := ⟨.hbm, 22, rfl⟩
abbrev main_call1_c : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_cst : Ref sig .tc := ⟨.hbm, 29, rfl⟩
abbrev main_call1_v6 : Ref sig .tc := ⟨.hbm, 30, rfl⟩
abbrev main_v14 : Ref sig .tc := ⟨.hbm, 31, rfl⟩
abbrev main_call2_v0 : Ref sig .tc := ⟨.hbm, 32, rfl⟩
abbrev main_call2_c : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_cst : Ref sig .tc := ⟨.hbm, 39, rfl⟩
abbrev main_call2_v6 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_0 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x7680x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x7680x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Words.lean ====
/- The arithmetic of the group sizes as 32-bit words (hand-written, untrusted).

   The kernel walks an expert's rows in chunks of 512. The number of chunks is computed from the group size `v` by
   32-bit word arithmetic, `(v + 511) / 512` rounded toward zero. This module reads that word as an integer for every
   group size of at most 7680 (the precondition; no lower bound is needed: a size at or below zero gives no chunk).
   Nothing here mentions the kernel: the modules about the two printed kernels cite these lemmas. -/
module

public import Idealize.ShloMosaic.PureOps
public import Idealize.ShloMosaic.Lib.Scf
public import Idealize.ShloMosaic.Lib.WordArith

@[expose] public section

namespace Cert.Words

open Idealize.ShloMosaic

/-- The chunk count of a group of size `v`, as the kernel computes it: `(v + 511) / 512` on words. -/
def chunks (v : BitVec 32) : BitVec 32 := Scalar.divsi (Scalar.addi v 511#32) 512#32

/-- The same count as a natural number: `⌈v / 512⌉`, and zero for a size at or below zero. -/
def nChunks (v : BitVec 32) : ℕ := ((v.toInt + 511) / 512).toNat

/-- Dividing a word by one changes nothing. -/
theorem divsi_one (x : BitVec 32) : Scalar.divsi x 1#32 = x := by
  show IntOp.divsi .scalar x 1#32 = x
  unfold IntOp.divsi
  rw [if_neg (by simp [IntOp.SDivCorner])]
  exact BitVec.sdiv_one

/-- The chunk count word read as an integer: the quotient rounded toward zero. -/
theorem chunks_toInt (v : BitVec 32) (h : v.toInt ≤ 7680) : (chunks v).toInt = (v.toInt + 511).tdiv 512 := by
  have hlo : -2147483648 ≤ v.toInt := by have := BitVec.le_toInt v; simpa using this
  show (IntOp.divsi .scalar (v + 511#32) 512#32).toInt = _
  unfold IntOp.divsi
  rw [if_neg (by simp [IntOp.SDivCorner]), BitVec.toInt_sdiv_of_ne_or_ne _ _ (Or.inr (by decide)), BitVec.toInt_add]
  have e1 : (511#32 : BitVec 32).toInt = 511 := by decide
  have e2 : (512#32 : BitVec 32).toInt = 512 := by decide
  rw [e1, e2, Int.bmod_eq_of_le (by omega) (by omega)]

/-- The count of trips from 0 to the chunk count is `nChunks`. -/
theorem trips_chunks (v : BitVec 32) (h : v.toInt ≤ 7680) : Scf.trips 0#32 (chunks v) 1#32 = nChunks v := by
  have e0 : (0#32 : BitVec 32).toInt = 0 := by decide
  have e1 : (1#32 : BitVec 32).toInt = 1 := by decide
  unfold Scf.trips nChunks
  rw [chunks_toInt v h, e0, e1]
  rcases le_or_gt 0 (v.toInt + 511) with hp | hp
  · rw [Int.tdiv_eq_ediv_of_nonneg hp]; omega
  · have h1 : (v.toInt + 511).tdiv 512 ≤ 0 := by
      have hs : Int.sign 512 = 1 := rfl
      rw [Int.tdiv_eq_ediv, hs]; split <;> omega
    omega

/-- At most fifteen chunks. -/
theorem nChunks_le (v : BitVec 32) (h : v.toInt ≤ 7680) : nChunks v ≤ 15 := by unfold nChunks; omega

/-- A row within the group is a row of one of the chunks. -/
theorem lt_nChunks (v : BitVec 32) (r : ℕ) (hr : (r : ℤ) < v.toInt) : r < 512 * nChunks v := by unfold nChunks; omega

/-- The loop over the chunks has a meaning. -/
theorem ok_chunks (v : BitVec 32) (h : v.toInt ≤ 7680) : Scf.OK 0#32 (chunks v) 1#32 := by
  have := nChunks_le v h
  refine ⟨by decide, ?_⟩
  rw [trips_chunks v h]
  have e0 : (0#32 : BitVec 32).toInt = 0 := by decide
  have e1 : (1#32 : BitVec 32).toInt = 1 := by decide
  rw [e0, e1]; omega

/-- A loop from a word to itself by one has no trips. -/
theorem trips_self (x : BitVec 32) : Scf.trips x x 1#32 = 0 := by
  have e1 : (1#32 : BitVec 32).toInt = 1 := by decide
  unfold Scf.trips; rw [e1]; omega

/-- and has a meaning. -/
theorem ok_self (x : BitVec 32) : Scf.OK x x 1#32 := by
  refine ⟨by decide, ?_⟩
  rw [trips_self]
  have := BitVec.toInt_lt (x := x)
  simpa using this

/-- Chunk `k`'s first row, as the kernel computes it, is `512 k`. -/
theorem row_toNat (k : ℕ) (hk : k < 15) :
    (Scalar.muli (Scf.iv 0#32 1#32 k) 512#32 : BitVec 32).toNat = 512 * k := by
  have : ∀ k : Fin 15, (Scalar.muli (Scf.iv 0#32 1#32 k.val) 512#32 : BitVec 32).toNat = 512 * k.val := by decide
  exact this ⟨k, hk⟩

/-- The same through the cast to an index. -/
theorem row_index_toNat (k : ℕ) (hk : k < 15) :
    (Scalar.indexCast (Scalar.muli (Scf.iv 0#32 1#32 k) 512#32 : BitVec 32) : Index).toNat = 512 * k := by
  have : ∀ k : Fin 15, (Scalar.indexCast (Scalar.muli (Scf.iv 0#32 1#32 k.val) 512#32 : BitVec 32) : Index).toNat
    = 512 * k.val := by decide
  exact this ⟨k, hk⟩

end Cert.Words
-- ==== Proof.SizesKernel.lean ====
/- The side conditions the kernel's body assumes of the group sizes, from the precondition (hand-written, untrusted):
   the printed kernel. The body reads its expert's group size and loads 512 rows per chunk, so it assumes that
   every chunk lies inside the 7680 rows. The precondition bounds every group size by 7680; the rest is the word
   arithmetic of `Proof/Words.lean`. -/
module

public import proofs.«01_k».proof.Defs
public import proofs.«01_k».proof.Proof.Words
public import proofs.«01_k».proof.Proof.Gen.Kernel.Frame
public import proofs.«01_k».proof.Proof.Gen.Pre_sizes_fit

@[expose] public section

noncomputable section

namespace Cert.Kernel.Sizes

open Cert.Kernel Cert.Kernel.Gen
open Idealize.ShloMosaic Idealize.ShloMosaic.TcCoe

/-- The first loop runs from zero to the chunk count. -/
theorem loop1_eq (v : BitVec 32) : k0_t1_loop v = ⟨0#32, Words.chunks v, 1#32⟩ := by
  show Scf.Loop.mk (0#32 : BitVec 32) (Scalar.addi 0#32 (Scalar.muli (Scalar.divsi (Scalar.subi (Words.chunks v) 0#32) 1#32) 1#32)) 1#32 = _
  have hs : Scalar.subi (Words.chunks v) 0#32 = Words.chunks v := BitVec.sub_zero _
  have hm : Scalar.muli (Words.chunks v) 1#32 = Words.chunks v := BitVec.mul_one _
  have ha : Scalar.addi 0#32 (Words.chunks v) = Words.chunks v := BitVec.zero_add _
  rw [hs, Words.divsi_one, hm, ha]

/-- The second loop, over what the first leaves, runs from the chunk count to the chunk count. -/
theorem loop2_eq (v : BitVec 32) : k0_t2_loop v = ⟨Words.chunks v, Words.chunks v, 1#32⟩ := by
  show Scf.Loop.mk (Scalar.addi 0#32 (Scalar.muli (Scalar.divsi (Scalar.subi (Words.chunks v) 0#32) 1#32) 1#32) : BitVec 32) (Scalar.addi 0#32 (Scalar.subi (Words.chunks v) 0#32)) 1#32 = _
  have hs : Scalar.subi (Words.chunks v) 0#32 = Words.chunks v := BitVec.sub_zero _
  have hm : Scalar.muli (Words.chunks v) 1#32 = Words.chunks v := BitVec.mul_one _
  have ha : Scalar.addi 0#32 (Words.chunks v) = Words.chunks v := BitVec.zero_add _
  rw [hs, Words.divsi_one, hm, ha]

/-- The first loop's trips: one per chunk. -/
theorem trips1 (v : BitVec 32) (h : v.toInt ≤ 7680) : (k0_t1_loop v).trips = Words.nChunks v := by
  rw [loop1_eq]; exact Words.trips_chunks v h

/-- The second loop has none. -/
theorem trips2 (v : BitVec 32) : (k0_t2_loop v).trips = 0 := by
  rw [loop2_eq]; exact Words.trips_self _

/-- Trip `k` reads the scales from row `512 k` on. -/
theorem off2_eq (v : BitVec 32) (h : v.toInt ≤ 7680) (k : Fin (k0_t1_loop v).trips) :
    k0_off2 v k = ![0, 512 * k.val, 0] := by
  have hk : k.val < 15 := lt_of_lt_of_le (k.isLt.trans_eq (trips1 v h)) (Words.nChunks_le v h)
  show ![0, (Scalar.indexCast (Scalar.muli (Scf.iv 0#32 1#32 k.val) 512#32 : BitVec 32) : Index).toNat, 0] = _
  rw [Words.row_index_toNat _ hk]

/-- Trip `k` reads the codes from row `512 k` on. -/
theorem off3_eq (v : BitVec 32) (h : v.toInt ≤ 7680) (k : Fin (k0_t1_loop v).trips) :
    k0_off3 v k = ![0, 512 * k.val, 0] := by
  have hk : k.val < 15 := lt_of_lt_of_le (k.isLt.trans_eq (trips1 v h)) (Words.nChunks_le v h)
  show ![0, (Scalar.indexCast (Scalar.muli (Scf.iv 0#32 1#32 k.val) 512#32 : BitVec 32) : Index).toNat, 0] = _
  rw [Words.row_index_toNat _ hk]

/-- A group size of at most 7680 meets everything the body assumes of it. -/
theorem chk1_of_le (v : BitVec 32) (h : v.toInt ≤ 7680) : k0_chk1 v := by
  have hlt : ∀ k : Fin (k0_t1_loop v).trips, k.val < 15 := fun k =>
    lt_of_lt_of_le (k.isLt.trans_eq (trips1 v h)) (Words.nChunks_le v h)
  have no2 : Fin (k0_t2_loop v).trips → False := fun k =>
    absurd (k.isLt.trans_eq (trips2 v)) (Nat.not_lt_zero _)
  refine ⟨?_, fun k => ?_, fun k => ?_, fun k => ?_, ?_, fun k => (no2 k).elim, fun k => (no2 k).elim,
    fun k => (no2 k).elim⟩
  · rw [loop1_eq]; exact Words.ok_chunks v h
  · show 512 ∣ (Scalar.muli (Scf.iv 0#32 1#32 k.val) 512#32 : BitVec 32).toNat
    rw [Words.row_toNat _ (hlt k)]; exact dvd_mul_right _ _
  · rw [off2_eq v h]
    have := hlt k
    intro a
    match a with
    | ⟨0, _⟩ => show 0 + 1 ≤ 1; omega
    | ⟨1, _⟩ => show 512 * k.val + 512 ≤ 7680; omega
    | ⟨2, _⟩ => show 0 + 1 ≤ 1; omega
  · rw [off3_eq v h]
    have := hlt k
    intro a
    match a with
    | ⟨0, _⟩ => show 0 + 1 ≤ 1; omega
    | ⟨1, _⟩ => show 512 * k.val + 512 ≤ 7680; omega
    | ⟨2, _⟩ => show 0 + 1024 ≤ 1024; omega
  · rw [loop2_eq]; exact Words.ok_self _

/-- The precondition read at an expert: its group size is at most 7680. -/
theorem size_le (m : (ℓ : Loc nD τ sig) → Buf (Elt Bits) ℓ) (h : Cert.Pre_Kernel m) (c : Dev nD) (e : S8.Idx) :
    (m ((c : Thread nD τ).loc main_arg2) e : BitVec 32).toInt ≤ 7680 := by
  have e := congrFun (h c) e
  simp only [Pre_sizes_fit.fn, cmpi, broadcastInDim, constantI, IntOp.cmpi] at e
  have ofBool_eq_one (p : Bool) : (BitVec.ofBool p = 1#1) ↔ p = true := by cases p <;> decide
  rw [ofBool_eq_one] at e
  simp only [BitVec.sle, decide_eq_true_eq] at e
  exact e

/-- The windows read no prefetched word: nothing to prove. -/
theorem ok_of_pre (m : (ℓ : Loc nD τ sig) → Buf (Elt Bits) ℓ) : Ok m := trivial

/-- A word read off the table is one of the table's words: a bound on all of them bounds it. -/
theorem word_le {c : Dev nD} (f : TbBuf0 (F := Bits) c tbM0_0) (hf : ∀ y : S8.Idx, (f y : BitVec 32).toInt ≤ 7680)
    (i : grid0.Coords) (x : S1.Idx) : (tbM0_0.view.readAt (Elt Bits)
      (Rect.unit (s := S8) (k0_off1 i) S1.size (k0_off1_inb i)).toLoadRect f x : BitVec 32).toInt ≤ 7680 := by
  rw [View.readAt_apply, View.read_apply, cast_eq]
  exact hf _

/-- The side conditions of every grid point, from the precondition. -/
theorem hyps_of_pre (m : (ℓ : Loc nD τ sig) → Buf (Elt Bits) ℓ) (h : Cert.Pre_Kernel m) : Hyps m (ok_of_pre m) := by
  intro c t
  apply chk1_of_le
  refine word_le (c := c) (tbl m 0) (fun y => ?_) _ _
  show (V m 0 main_arg2 y : BitVec 32).toInt ≤ 7680
  rw [V_main_arg2]
  exact size_le m h 0 y

/-- The frame of the program: under the precondition it terminates and leaves its arguments as they were. -/
theorem frame_of_pre (m : (ℓ : Loc nD τ sig) → Buf (Elt Bits) ℓ) (ρ : Dev nD → PrngReg) (h : Cert.Pre_Kernel m) :
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Gen.frame m ρ (ok_of_pre m) (hyps_of_pre m h)

end Cert.Kernel.Sizes

end
-- ==== Proof.SizesIdeal.lean ====
/- The side conditions the kernel's body assumes of the group sizes, from the precondition (hand-written, untrusted):
   the kernel's idealization. The body reads its expert's group size and loads 512 rows per chunk, so it assumes that
   every chunk lies inside the 7680 rows. The precondition bounds every group size by 7680; the rest is the word
   arithmetic of `Proof/Words.lean`. -/
module

public import proofs.«01_k».proof.Defs
public import proofs.«01_k».proof.Proof.Words
public import proofs.«01_k».proof.Proof.Gen.KernelIdeal.Frame
public import proofs.«01_k».proof.Proof.Gen.Pre_sizes_fit

@[expose] public section

noncomputable section

namespace Cert.KernelIdeal.Sizes

open Cert.KernelIdeal Cert.KernelIdeal.Gen
open Idealize.ShloMosaic Idealize.ShloMosaic.TcCoe

/-- The first loop runs from zero to the chunk count. -/
theorem loop1_eq (v : BitVec 32) : k0_t1_loop v = ⟨0#32, Words.chunks v, 1#32⟩ := by
  show Scf.Loop.mk (0#32 : BitVec 32) (Scalar.addi 0#32 (Scalar.muli (Scalar.divsi (Scalar.subi (Words.chunks v) 0#32) 1#32) 1#32)) 1#32 = _
  have hs : Scalar.subi (Words.chunks v) 0#32 = Words.chunks v := BitVec.sub_zero _
  have hm : Scalar.muli (Words.chunks v) 1#32 = Words.chunks v := BitVec.mul_one _
  have ha : Scalar.addi 0#32 (Words.chunks v) = Words.chunks v := BitVec.zero_add _
  rw [hs, Words.divsi_one, hm, ha]

/-- The second loop, over what the first leaves, runs from the chunk count to the chunk count. -/
theorem loop2_eq (v : BitVec 32) : k0_t2_loop v = ⟨Words.chunks v, Words.chunks v, 1#32⟩ := by
  show Scf.Loop.mk (Scalar.addi 0#32 (Scalar.muli (Scalar.divsi (Scalar.subi (Words.chunks v) 0#32) 1#32) 1#32) : BitVec 32) (Scalar.addi 0#32 (Scalar.subi (Words.chunks v) 0#32)) 1#32 = _
  have hs : Scalar.subi (Words.chunks v) 0#32 = Words.chunks v := BitVec.sub_zero _
  have hm : Scalar.muli (Words.chunks v) 1#32 = Words.chunks v := BitVec.mul_one _
  have ha : Scalar.addi 0#32 (Words.chunks v) = Words.chunks v := BitVec.zero_add _
  rw [hs, Words.divsi_one, hm, ha]

/-- The first loop's trips: one per chunk. -/
theorem trips1 (v : BitVec 32) (h : v.toInt ≤ 7680) : (k0_t1_loop v).trips = Words.nChunks v := by
  rw [loop1_eq]; exact Words.trips_chunks v h

/-- The second loop has none. -/
theorem trips2 (v : BitVec 32) : (k0_t2_loop v).trips = 0 := by
  rw [loop2_eq]; exact Words.trips_self _

/-- Trip `k` reads the scales from row `512 k` on. -/
theorem off2_eq (v : BitVec 32) (h : v.toInt ≤ 7680) (k : Fin (k0_t1_loop v).trips) :
    k0_off2 v k = ![0, 512 * k.val, 0] := by
  have hk : k.val < 15 := lt_of_lt_of_le (k.isLt.trans_eq (trips1 v h)) (Words.nChunks_le v h)
  show ![0, (Scalar.indexCast (Scalar.muli (Scf.iv 0#32 1#32 k.val) 512#32 : BitVec 32) : Index).toNat, 0] = _
  rw [Words.row_index_toNat _ hk]

/-- Trip `k` reads the codes from row `512 k` on. -/
theorem off3_eq (v : BitVec 32) (h : v.toInt ≤ 7680) (k : Fin (k0_t1_loop v).trips) :
    k0_off3 v k = ![0, 512 * k.val, 0] := by
  have hk : k.val < 15 := lt_of_lt_of_le (k.isLt.trans_eq (trips1 v h)) (Words.nChunks_le v h)
  show ![0, (Scalar.indexCast (Scalar.muli (Scf.iv 0#32 1#32 k.val) 512#32 : BitVec 32) : Index).toNat, 0] = _
  rw [Words.row_index_toNat _ hk]

/-- A group size of at most 7680 meets everything the body assumes of it. -/
theorem chk1_of_le (v : BitVec 32) (h : v.toInt ≤ 7680) : k0_chk1 v := by
  have hlt : ∀ k : Fin (k0_t1_loop v).trips, k.val < 15 := fun k =>
    lt_of_lt_of_le (k.isLt.trans_eq (trips1 v h)) (Words.nChunks_le v h)
  have no2 : Fin (k0_t2_loop v).trips → False := fun k =>
    absurd (k.isLt.trans_eq (trips2 v)) (Nat.not_lt_zero _)
  refine ⟨?_, fun k => ?_, fun k => ?_, fun k => ?_, ?_, fun k => (no2 k).elim, fun k => (no2 k).elim,
    fun k => (no2 k).elim⟩
  · rw [loop1_eq]; exact Words.ok_chunks v h
  · show 512 ∣ (Scalar.muli (Scf.iv 0#32 1#32 k.val) 512#32 : BitVec 32).toNat
    rw [Words.row_toNat _ (hlt k)]; exact dvd_mul_right _ _
  · rw [off2_eq v h]
    have := hlt k
    intro a
    match a with
    | ⟨0, _⟩ => show 0 + 1 ≤ 1; omega
    | ⟨1, _⟩ => show 512 * k.val + 512 ≤ 7680; omega
    | ⟨2, _⟩ => show 0 + 1 ≤ 1; omega
  · rw [off3_eq v h]
    have := hlt k
    intro a
    match a with
    | ⟨0, _⟩ => show 0 + 1 ≤ 1; omega
    | ⟨1, _⟩ => show 512 * k.val + 512 ≤ 7680; omega
    | ⟨2, _⟩ => show 0 + 1024 ≤ 1024; omega
  · rw [loop2_eq]; exact Words.ok_self _

/-- The precondition read at an expert: its group size is at most 7680. -/
theorem size_le (m : (ℓ : Loc nD τ sig) → Buf (Elt Ideal) ℓ) (h : Cert.Pre_KernelIdeal m) (c : Dev nD) (e : S8.Idx) :
    (m ((c : Thread nD τ).loc main_arg2) e : BitVec 32).toInt ≤ 7680 := by
  have e := congrFun (h c) e
  simp only [Pre_sizes_fit.fn, cmpi, broadcastInDim, constantI, IntOp.cmpi] at e
  have ofBool_eq_one (p : Bool) : (BitVec.ofBool p = 1#1) ↔ p = true := by cases p <;> decide
  rw [ofBool_eq_one] at e
  simp only [BitVec.sle, decide_eq_true_eq] at e
  exact e

/-- The windows read no prefetched word: nothing to prove. -/
theorem ok_of_pre (m : (ℓ : Loc nD τ sig) → Buf (Elt Ideal) ℓ) : Ok m := trivial

/-- A word read off the table is one of the table's words: a bound on all of them bounds it. -/
theorem word_le {c : Dev nD} (f : TbBuf0 (F := Ideal) c tbM0_0) (hf : ∀ y : S8.Idx, (f y : BitVec 32).toInt ≤ 7680)
    (i : grid0.Coords) (x : S1.Idx) : (tbM0_0.view.readAt (Elt Ideal)
      (Rect.unit (s := S8) (k0_off1 i) S1.size (k0_off1_inb i)).toLoadRect f x : BitVec 32).toInt ≤ 7680 := by
  rw [View.readAt_apply, View.read_apply, cast_eq]
  exact hf _

/-- The side conditions of every grid point, from the precondition. -/
theorem hyps_of_pre (m : (ℓ : Loc nD τ sig) → Buf (Elt Ideal) ℓ) (h : Cert.Pre_KernelIdeal m) : Hyps m (ok_of_pre m) := by
  intro c t
  apply chk1_of_le
  refine word_le (c := c) (tbl m 0) (fun y => ?_) _ _
  show (V m 0 main_arg2 y : BitVec 32).toInt ≤ 7680
  rw [V_main_arg2]
  exact size_le m h 0 y

/-- The frame of the program: under the precondition it terminates and leaves its arguments as they were. -/
theorem frame_of_pre (m : (ℓ : Loc nD τ sig) → Buf (Elt Ideal) ℓ) (ρ : Dev nD → PrngReg) (h : Cert.Pre_KernelIdeal m) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Gen.frame m ρ (ok_of_pre m) (hyps_of_pre m h)

end Cert.KernelIdeal.Sizes

end
-- ==== Proof.Block.lean ====
/- What one grid step of the kernel leaves in its output block (hand-written, untrusted): the accumulator is a recursion
   over the chunks of the two blocks of codes, and the output block is the old block times the expert's factor plus the
   expert's new factor times that accumulator. -/
module

public import proofs.«01_k».proof.Proof.SizesIdeal
public import Idealize.ShloMosaic.Lib.Pipeline.Value

@[expose] public section

set_option maxRecDepth 16384
noncomputable section

namespace Cert.KernelIdeal.Block

open Cert.KernelIdeal Cert.KernelIdeal.Gen
open Idealize.ShloMosaic Idealize.ShloMosaic.TcCoe

variable {F : FTy → Type} [FloatOps F]

/-- Three zeros are the zero offset. -/
theorem hz3 : (![0, 0, 0] : Fin 3 → Nat) = fun _ => 0 := funext fun a => by fin_cases a <;> rfl
/-- Two zeros are the zero offset. -/
theorem hz2 : (![0, 0] : Fin 2 → Nat) = fun _ => 0 := funext fun a => by fin_cases a <;> rfl

section
variable (c : Dev nD) (i : grid0.Coords) (arg3 : Memref sig .tc .smem S8 .i32) (harg3 : arg3.IsWhole) (arg4 : Memref sig .tc .smem S8 .f32) (harg4 : arg4.IsWhole) (arg5 : Memref sig .tc .smem S8 .f32) (harg5 : arg5.IsWhole) (arg6 : Memref sig .tc .vmem S1x7680x1024 .fp8e4m3) (harg6 : arg6.IsWhole) (arg7 : Memref sig .tc .vmem S1x7680x1024 .fp8e4m3) (harg7 : arg7.IsWhole) (arg8 : Memref sig .tc .vmem S1x7680x1 .f32) (harg8 : arg8.IsWhole) (arg9 : Memref sig .tc .vmem S1x1024x1024 .f32) (harg9 : arg9.IsWhole) (arg10 : Memref sig .tc .vmem S1x1024x1024 .f32) (harg10 : arg10.IsWhole) (arg11 : Memref sig .tc .vmem S1024x1024 .f32) (harg11 : arg11.IsWhole)
  (v1 : BitVec 32) (hw : k0_chk1 v1)

/-- One trip of the loop stores once into the accumulator, over all of it: the accumulator it read
    plus the product of the two chunks it read. -/
theorem tripL_eq (𝒱 : Variants) (bd : Option 𝒱.V) (X6 : BufTy.Contents (Elt F) arg6.view.ty) (X7 : BufTy.Contents (Elt F) arg7.view.ty)
    (X8 : BufTy.Contents (Elt F) arg8.view.ty) (k : Fin (k0_t1_loop v1).trips) (acc : BitVec 32) (f : BufTy.Contents (Elt F) arg11.view.ty) :
    tripL_k0_t1 (F := F) 𝒱 c bd i arg3 harg3 arg4 harg4 arg5 harg5 arg6 harg6 arg7 harg7 arg8 harg8 arg9 harg9 arg10 harg10 arg11 harg11 v1 hw X6 X7 X8 k acc f
      = [⟨Rect.unit (s := S1024x1024) ![0, 0] S1024x1024.size inb_S1024x1024_S1024x1024_0_0,
          k0_pay2 v1 k
            (arg8.view.readAt (Elt F) (Rect.unit (s := S1x7680x1) (k0_off2 v1 k) S1x512x1.size (k0_off2_inb v1 hw k)).toLoadRect X8)
            (arg6.view.readAt (Elt F) (Rect.unit (s := S1x7680x1024) (k0_off3 v1 k) S1x512x1024.size (k0_off3_inb v1 hw k)).toLoadRect X6)
            (arg7.view.readAt (Elt F) (Rect.unit (s := S1x7680x1024) (k0_off3 v1 k) S1x512x1024.size (k0_off3_inb v1 hw k)).toLoadRect X7)
            (arg11.view.readAt (Elt F) (Rect.unit (s := S1024x1024) ![0, 0] S1024x1024.size inb_S1024x1024_S1024x1024_0_0).toLoadRect f)⟩] := by
  unfold tripL_k0_t1 trip_k0_t1
  rfl

variable (x2 : Vec F S1x7680x1024 .fp8e4m3) (x3 : Vec F S1x7680x1024 .fp8e4m3) (x4 : Vec F S1x7680x1 .f32)

/-- The accumulator after `n` trips, as a plain recursion over the chunks of the two blocks. -/
def accAt : ℕ → FVec F S1024x1024 .f32
  | 0 => k0_pay1
  | n + 1 => if h : n < (k0_t1_loop v1).trips then
      k0_pay2 v1 ⟨n, h⟩
        (View.ld (Val := Elt F) x4 (Rect.unit (s := S1x7680x1) (k0_off2 v1 ⟨n, h⟩) S1x512x1.size (k0_off2_inb v1 hw ⟨n, h⟩)))
        (View.ld (Val := Elt F) x2 (Rect.unit (s := S1x7680x1024) (k0_off3 v1 ⟨n, h⟩) S1x512x1024.size (k0_off3_inb v1 hw ⟨n, h⟩)))
        (View.ld (Val := Elt F) x3 (Rect.unit (s := S1x7680x1024) (k0_off3 v1 ⟨n, h⟩) S1x512x1024.size (k0_off3_inb v1 hw ⟨n, h⟩)))
        (accAt n)
    else accAt n

/-- A trip adds its chunk to the accumulator of the trips before it. -/
theorem accAt_succ (n : ℕ) (h : n < (k0_t1_loop v1).trips) :
    accAt v1 hw x2 x3 x4 (n + 1) = k0_pay2 v1 ⟨n, h⟩
        (View.ld (Val := Elt F) x4 (Rect.unit (s := S1x7680x1) (k0_off2 v1 ⟨n, h⟩) S1x512x1.size (k0_off2_inb v1 hw ⟨n, h⟩)))
        (View.ld (Val := Elt F) x2 (Rect.unit (s := S1x7680x1024) (k0_off3 v1 ⟨n, h⟩) S1x512x1024.size (k0_off3_inb v1 hw ⟨n, h⟩)))
        (View.ld (Val := Elt F) x3 (Rect.unit (s := S1x7680x1024) (k0_off3 v1 ⟨n, h⟩) S1x512x1024.size (k0_off3_inb v1 hw ⟨n, h⟩)))
        (accAt v1 hw x2 x3 x4 n) := dif_pos h

/-- What the first loop's pieces hold after `n` trips is that recursion. -/
theorem canon_st (n : ℕ) (hn : n ≤ (k0_t1_loop v1).trips) (init : BitVec 32) :
    View.canon (Val := Elt F) ((st_k0_t1 (F := F) Variants.none c none i arg3 harg3 arg4 harg4 arg5 harg5 arg6 harg6 arg7 harg7 arg8 harg8 arg9 harg9 arg10 harg10 arg11 harg11 v1 hw
        (harg6.unread x2) (harg7.unread x3) (harg8.unread x4)
        (arg11.view.writes (Elt F) arg11.view.junk [⟨Rect.unit (s := S1024x1024) ![0, 0] S1024x1024.size inb_S1024x1024_S1024x1024_0_0, k0_pay1⟩]) init n).2
        ++ [⟨Rect.unit (s := S1024x1024) ![0, 0] S1024x1024.size inb_S1024x1024_S1024x1024_0_0, k0_pay1⟩])
      = accAt v1 hw x2 x3 x4 n := by
  induction n with
  | zero =>
    show View.canon [_] = _
    rw [View.canon_unit_zero hz2]
    rfl
  | succ n ih =>
    have hlt : n < (k0_t1_loop v1).trips := hn
    rw [st_k0_t1_succ (F := F) _ c _ i arg3 harg3 arg4 harg4 arg5 harg5 arg6 harg6 arg7 harg7 arg8 harg8 arg9 harg9 arg10 harg10 arg11 harg11 v1 hw _ _ _ _ init ⟨n, hlt⟩]
    dsimp only
    rw [tripL_eq, List.append_assoc, List.singleton_append, View.canon_cons_unit_zero hz2, ← View.writes_append]
    simp only [View.readAt_eq_ld, harg6.read_unread, harg7.read_unread, harg8.read_unread, View.read_writes_junk_eq_canon,
      View.ld_unit_zero (S := S1024x1024) hz2]
    rw [ih (Nat.le_of_lt hlt), accAt_succ _ _ _ _ _ n hlt]

/-- What the accumulator reads back as after both loops: the second loop makes no trip. -/
theorem readCov_loops (h0 : (k0_t2_loop v1).trips = 0) (G : BufTy.Contents (Elt F) arg11.view.ty) (init init' : BitVec 32) :
    arg11.view.readCov (Val := Elt F) ((st_k0_t2 (F := F) Variants.none c none i arg3 harg3 arg4 harg4 arg5 harg5 arg6 harg6 arg7 harg7 arg8 harg8 arg9 harg9 arg10 harg10 arg11 harg11 v1 hw
        (harg6.unread x2) (harg7.unread x3) (harg8.unread x4) G init' (k0_t2_loop v1).trips).2 ++
      ((st_k0_t1 (F := F) Variants.none c none i arg3 harg3 arg4 harg4 arg5 harg5 arg6 harg6 arg7 harg7 arg8 harg8 arg9 harg9 arg10 harg10 arg11 harg11 v1 hw
        (harg6.unread x2) (harg7.unread x3) (harg8.unread x4)
        (arg11.view.writes (Elt F) arg11.view.junk [⟨Rect.unit (s := S1024x1024) ![0, 0] S1024x1024.size inb_S1024x1024_S1024x1024_0_0, k0_pay1⟩]) init (k0_t1_loop v1).trips).2
        ++ [⟨Rect.unit (s := S1024x1024) ![0, 0] S1024x1024.size inb_S1024x1024_S1024x1024_0_0, k0_pay1⟩]))
      (Rect.unit (s := S1024x1024) ![0, 0] S1024x1024.size inb_S1024x1024_S1024x1024_0_0).toLoadRect
      = accAt v1 hw x2 x3 x4 (k0_t1_loop v1).trips := by
  rw [h0]
  have hnil : (st_k0_t2 (F := F) Variants.none c none i arg3 harg3 arg4 harg4 arg5 harg5 arg6 harg6 arg7 harg7 arg8 harg8 arg9 harg9 arg10 harg10 arg11 harg11 v1 hw
        (harg6.unread x2) (harg7.unread x3) (harg8.unread x4) G init' 0).2 = [] := rfl
  rw [hnil, List.nil_append]
  unfold View.readCov
  rw [View.readAt_eq_ld, View.read_writes_junk_eq_canon, View.ld_unit_zero (S := S1024x1024) hz2]
  exact canon_st c i arg3 harg3 arg4 harg4 arg5 harg5 arg6 harg6 arg7 harg7 arg8 harg8 arg9 harg9 arg10 harg10 arg11 harg11 v1 hw x2 x3 x4 _ le_rfl init
end

/-- The expert a grid point works on, as an index into the per-expert scalars. -/
def expert (i : grid0.Coords) : S8.Idx := fun a => match a with | ⟨0, _⟩ => i 0

/-- The size word is read at the point's expert. -/
theorem off1_eq (i : grid0.Coords) : k0_off1 i = ![(i 0).val] := by
  have : ∀ e : Fin 8, (Scalar.indexCast (BitVec.ofNat 32 e.val : BitVec 32) : Index).toNat = e.val := by decide
  exact congrArg (fun n => (![n] : Fin 1 → Nat)) (this (i 0))

/-- The two factors are read at the point's expert. -/
theorem off6_eq (i : grid0.Coords) : k0_off6 i = ![(i 0).val] := off1_eq i

/-- A one-word access at the point's expert reaches the expert's index. -/
theorem idx_expert (i : grid0.Coords) {off : Fin 1 → Nat} (inb : ∀ a, off a + S1.size a ≤ S8.size a) (h : off = ![(i 0).val]) (x : S1.Idx) :
    (Rect.unit (s := S8) off S1.size inb).toLoadRect.idx x = expert i := by
  subst h
  funext a
  apply Fin.ext
  match a with
  | ⟨0, _⟩ =>
    show (i 0).val + 1 * (x 0).val = (i 0).val
    have : (x 0).val < 1 := (x 0).isLt
    omega

/-- A one-word load at the point's expert reads the expert's word. -/
theorem ld_expert {e : EltTy} (i : grid0.Coords) {off : Fin 1 → Nat} (inb : ∀ a, off a + S1.size a ≤ S8.size a) (h : off = ![(i 0).val])
    (X : Vec F S8 e) (x : S1.Idx) : View.ld (Val := Elt F) X (Rect.unit (s := S8) off S1.size inb) x = X (expert i) :=
  congrArg X (idx_expert i inb h x)

/-- The size word the body reads is the table's entry at its expert. -/
theorem word_eq {c : Dev nD} (f : TbBuf0 (F := F) c tbM0_0) (i : grid0.Coords) (x : S1.Idx) :
    (tbM0_0.view.readAt (Elt F) (Rect.unit (s := S8) (k0_off1 i) S1.size (k0_off1_inb i)).toLoadRect f x : BitVec 32) = f (expert i) := by
  rw [View.readAt_apply, View.read_apply, cast_eq]
  rw [idx_expert i (k0_off1_inb i) (off1_eq i)]
  rfl

set_option maxHeartbeats 400000 in
/-- The output block a step leaves: the old block times the expert's factor, plus the new factor times the accumulator after all its trips. -/
theorem out_A (c : Dev nD) (i : grid0.Coords) (arg4 : Memref sig .tc .smem S8 .f32) (harg4 : arg4.IsWhole) (arg5 : Memref sig .tc .smem S8 .f32) (harg5 : arg5.IsWhole) (arg6 : Memref sig .tc .vmem S1x7680x1024 .fp8e4m3) (harg6 : arg6.IsWhole) (arg7 : Memref sig .tc .vmem S1x7680x1024 .fp8e4m3) (harg7 : arg7.IsWhole) (arg8 : Memref sig .tc .vmem S1x7680x1 .f32) (harg8 : arg8.IsWhole) (arg9 : Memref sig .tc .vmem S1x1024x1024 .f32) (harg9 : arg9.IsWhole) (arg10 : Memref sig .tc .vmem S1x1024x1024 .f32) (harg10 : arg10.IsWhole) (arg11 : Memref sig .tc .vmem S1024x1024 .f32) (harg11 : arg11.IsWhole)
    (x0 : Vec F S8 .f32) (x1 : Vec F S8 .f32) (x2 : Vec F S1x7680x1024 .fp8e4m3) (x3 : Vec F S1x7680x1024 .fp8e4m3) (x4 : Vec F S1x7680x1 .f32) (x5 : Vec F S1x1024x1024 .f32) (xt0 : TbBuf0 (F := F) c tbM0_0) (k0_hw1 : k0_chk1 (tbM0_0.view.readAt (Elt F) (Rect.unit (s := S8) (k0_off1 i) S1.size (k0_off1_inb i)).toLoadRect xt0 (Shape.Idx.first (numel1_S1.symm ▸ Nat.one_pos))))
    (h0 : (k0_t2_loop (tbM0_0.view.readAt (Elt F) (Rect.unit (s := S8) (k0_off1 i) S1.size (k0_off1_inb i)).toLoadRect xt0 (Shape.Idx.first (numel1_S1.symm ▸ Nat.one_pos)))).trips = 0) :
    out0_A_6 c i arg4 harg4 arg5 harg5 arg6 harg6 arg7 harg7 arg8 harg8 arg9 harg9 arg10 harg10 arg11 harg11 x0 x1 x2 x3 x4 x5 xt0 k0_hw1
      = k0_pay4 x5 (x0 (expert i)) (x1 (expert i)) (accAt _ k0_hw1 x2 x3 x4
          (k0_t1_loop (tbM0_0.view.readAt (Elt F) (Rect.unit (s := S8) (k0_off1 i) S1.size (k0_off1_inb i)).toLoadRect xt0 (Shape.Idx.first (numel1_S1.symm ▸ Nat.one_pos)))).trips) := by
  unfold out0_A_6
  rw [View.read_writes_eq_canon _ _ _ (cover0_A_6 c i arg4 harg4 arg5 harg5 arg6 harg6 arg7 harg7 arg8 harg8 arg9 harg9 arg10 harg10 arg11 harg11 x0 x1 x2 x3 x4 x5 xt0 k0_hw1)]
  unfold kernelRun0_A
  dsimp only
  rw [View.canon_unit_zero hz3]
  simp only [View.readAt_eq_ld, harg9.read_unread, View.ld_unit_zero (S := S1x1024x1024) hz3]
  have e1 : kernelRun0_A.sl.r_1 c i arg4 harg4 x0 = x0 (expert i) := by
    unfold kernelRun0_A.sl.r_1
    rw [View.readAt_eq_ld, harg4.read_unread]
    exact ld_expert i (k0_off6_inb i) (off6_eq i) x0 _
  have e2 : kernelRun0_A.sl.r_2 c i arg5 harg5 x1 = x1 (expert i) := by
    unfold kernelRun0_A.sl.r_2
    rw [View.readAt_eq_ld, harg5.read_unread]
    exact ld_expert i (k0_off6_inb i) (off6_eq i) x1 _
  rw [e1, e2]
  unfold kernelRun0_A.sl.v23
  exact congrArg (k0_pay4 x5 _ _) (readCov_loops c i tbM0_0 htbM0_0 arg4 harg4 arg5 harg5 arg6 harg6 arg7 harg7 arg8 harg8 arg9 harg9 arg10 harg10 arg11 harg11 _ k0_hw1 x2 x3 x4 h0 _ _ _)

end Cert.KernelIdeal.Block
end
-- ==== Proof.Accum.lean ====
/- The kernel's accumulator at an element, over the extended reals (hand-written, untrusted). Each trip adds a sum over
   its 512 rows, so after `n` trips the accumulator is the sum over the first `512 n` rows; rows at and past the group
   size contribute nothing, so after the last trip it is the sum over all 7680 rows. -/
module

public import proofs.«01_k».proof.Proof.Block
public import Idealize.ShloMosaic.Lib.ValueIdx
public import Idealize.ShloMosaic.Lib.ValueLayout
public import Idealize.ShloMosaic.PureOps.Ideal.Laws

@[expose] public section

noncomputable section

namespace Cert.KernelIdeal.Accum

open Cert.KernelIdeal Cert.KernelIdeal.Gen
open Idealize.ShloMosaic Idealize.ShloMosaic.TcCoe Idealize.ShloMosaic.ValueIdx

/-- A row's scale as the product uses it: the scale while the row lies inside the group, zero from there on. -/
def live (v : BitVec 32) (r : ℕ) (s : EReal) : EReal := if (r : ℤ) < v.toInt then s else 0

/-- The comparison of a row number with the group size, as integers. -/
theorem cmpi_row (w v : BitVec 32) (n : ℕ) (hw : w.toNat = n) (hn : n < 7680) :
    IntOp.cmpi .slt w v = BitVec.ofBool (decide ((n : ℤ) < v.toInt)) := by
  have : w.toInt = (n : ℤ) := by
    rw [BitVec.toInt_eq_toNat_of_lt (by omega), hw]
  show BitVec.ofBool (decide (w.toInt < v.toInt)) = _
  rw [this]

/-- A select on a decided proposition is the conditional. -/
theorem select_ofBool {α : Type} (p : Prop) [Decidable p] (a b : α) :
    Scalar.select (BitVec.ofBool (decide p)) a b = if p then a else b := by
  by_cases h : p <;> simp [h, Scalar.select]

/-- Chunk `k`'s row `r`, as the kernel computes its number. -/
theorem row_word (k r : ℕ) (hk : k < 15) (hr : r < 512) :
    (IntOp.addi (Scalar.muli (Scf.iv 0#32 1#32 k) 512#32) (BitVec.ofNat 32 r) : BitVec 32).toNat = 512 * k + r := by
  show ((Scalar.muli (Scf.iv 0#32 1#32 k) 512#32 : BitVec 32) + BitVec.ofNat 32 r).toNat = _
  rw [BitVec.toNat_add, Words.row_toNat k hk, BitVec.toNat_ofNat]
  omega

/-- The left operand of the chunk product is read at row the summed index. -/
theorem lhs_0 (i : S1024x1024.Idx) (q : dot_S512x1024_S512x1024_S1024x1024_0_0_1_1_n_n.contr.Idx) :
    (dot_S512x1024_S512x1024_S1024x1024_0_0_1_1_n_n.lhsIdx i q 0).val = (q ⟨0, by decide⟩).val :=
  dot_S512x1024_S512x1024_S1024x1024_0_0_1_1_n_n.lhsIdx_val_of_single rfl i q
/-- The left operand of the chunk product is read at column the result's row. -/
theorem lhs_1 (i : S1024x1024.Idx) (q : dot_S512x1024_S512x1024_S1024x1024_0_0_1_1_n_n.contr.Idx) :
    (dot_S512x1024_S512x1024_S1024x1024_0_0_1_1_n_n.lhsIdx i q 1).val = (i 0).val := by
  unfold DotDims.lhsIdx
  rw [dif_neg (show ¬(1 : Fin S512x1024.rank) ∈ dot_S512x1024_S512x1024_S1024x1024_0_0_1_1_n_n.lhsBatch by decide), dif_pos (show (1 : Fin S512x1024.rank) ∈ dot_S512x1024_S512x1024_S1024x1024_0_0_1_1_n_n.lhsNonContracting by decide)]
  rfl
/-- The right operand of the chunk product is read at row the summed index. -/
theorem rhs_0 (i : S1024x1024.Idx) (q : dot_S512x1024_S512x1024_S1024x1024_0_0_1_1_n_n.contr.Idx) :
    (dot_S512x1024_S512x1024_S1024x1024_0_0_1_1_n_n.rhsIdx i q 0).val = (q ⟨0, by decide⟩).val :=
  dot_S512x1024_S512x1024_S1024x1024_0_0_1_1_n_n.rhsIdx_val_of_single rfl i q
/-- The right operand of the chunk product is read at column the result's column. -/
theorem rhs_1 (i : S1024x1024.Idx) (q : dot_S512x1024_S512x1024_S1024x1024_0_0_1_1_n_n.contr.Idx) :
    (dot_S512x1024_S512x1024_S1024x1024_0_0_1_1_n_n.rhsIdx i q 1).val = (i 1).val := by
  unfold DotDims.rhsIdx
  rw [dif_neg (show ¬(1 : Fin S512x1024.rank) ∈ dot_S512x1024_S512x1024_S1024x1024_0_0_1_1_n_n.rhsBatch by decide), dif_pos (show (1 : Fin S512x1024.rank) ∈ dot_S512x1024_S512x1024_S1024x1024_0_0_1_1_n_n.rhsNonContracting by decide)]
  rfl

/-- The chunk product at an element: the sum over the chunk's rows of the products of the two columns. -/
theorem dot_apply (l r : FVec Ideal S512x1024 .bf16) (a b : Fin 1024) :
    matmul dot_S512x1024_S512x1024_S1024x1024_0_0_1_1_n_n none l r (constant S1024x1024 .f32 0x00000000#32) (ix2 a b)
      = ∑ k : Fin 512, (l (ix2 k a) * r (ix2 k b) : EReal) := by
  simp only [matmul]
  rw [Ideal.matmul_constant_zero_apply, ← Equiv.sum_comp (ValueIdx.contrEquiv1 dot_S512x1024_S512x1024_S1024x1024_0_0_1_1_n_n 512 rfl rfl).symm]
  refine Finset.sum_congr rfl fun k _ => ?_
  have hk := ValueIdx.contrEquiv1_symm_val dot_S512x1024_S512x1024_S1024x1024_0_0_1_1_n_n 512 rfl rfl k
  have el : dot_S512x1024_S512x1024_S1024x1024_0_0_1_1_n_n.lhsIdx (ix2 a b) ((ValueIdx.contrEquiv1 dot_S512x1024_S512x1024_S1024x1024_0_0_1_1_n_n 512 rfl rfl).symm k) = ix2 k a := funext fun x => Fin.ext (by
    match x with
    | ⟨0, _⟩ => exact (lhs_0 _ _).trans hk
    | ⟨1, _⟩ => exact lhs_1 _ _)
  have er : dot_S512x1024_S512x1024_S1024x1024_0_0_1_1_n_n.rhsIdx (ix2 a b) ((ValueIdx.contrEquiv1 dot_S512x1024_S512x1024_S1024x1024_0_0_1_1_n_n 512 rfl rfl).symm k) = ix2 k b := funext fun x => Fin.ext (by
    match x with
    | ⟨0, _⟩ => exact (rhs_0 _ _).trans hk
    | ⟨1, _⟩ => exact rhs_1 _ _)
  rw [el, er]

/-- A column of scales broadcast along the rows of a chunk reads the row's scale. -/
theorem bcast_col (x : FVec Ideal S512x1 .bf16) (k : Fin 512) (a : Fin 1024) :
    broadcastTo S512x1024 x broadcasts_S512x1_S512x1024 (ix2 k a) = x (ix2 k (0 : Fin 1)) :=
  broadcastTo_apply x _ (ix2 k a) (ix2 k (0 : Fin 1)) fun ax => by
    match ax with
    | ⟨0, _⟩ => rfl
    | ⟨1, _⟩ => rfl

/-- What one trip stores, at an element: the accumulator plus the sum over the chunk's rows of the product of the two
    columns, each scaled by the row's scale inside the group and by zero past it. -/
theorem pay2_apply (v1 : BitVec 32) (k : Fin (k0_t1_loop v1).trips) (hk : k.val < 15) (v36 : Vec Ideal S1x512x1 .f32) (v46 v52 : Vec Ideal S1x512x1024 .fp8e4m3)
    (v57 : Vec Ideal S1024x1024 .f32) (a b : Fin 1024) :
    (k0_pay2 (F := Ideal) v1 k v36 v46 v52 v57 : S1024x1024.Idx → EReal) (ix2 a b) = (v57 (ix2 a b) : EReal)
      + ∑ r : Fin 512, ((v46 (ix3 0 r a) : EReal) * live v1 (512 * k.val + r.val) (v36 (ix3 0 r 0)))
          * ((v52 (ix3 0 r b) : EReal) * live v1 (512 * k.val + r.val) (v36 (ix3 0 r 0))) := by
  unfold k0_pay2
  rw [shapeCast_self, addf_apply, dot_apply]
  refine congrArg (_ + ·) (Finset.sum_congr rfl fun r _ => ?_)
  have hs : (select (cmpi .slt (addi (broadcast S512x1 (Scalar.muli (Scf.iv 0#32 1#32 k.val) 512#32 : BitVec 32)) (iota .tc S512x1 32 [0] iota_S512x1_d0_w32)) (broadcast S512x1 v1))
      (extf .f32 (truncf .bf16 (shapeCast S512x1 v36 shapeCasts_S1x512x1_S512x1) bitsLt_bf16_f32) bitsLt_bf16_f32)
      (broadcast S512x1 (Scalar.ofBits (F := Ideal) .f32 0x00000000#32)) : FVec Ideal S512x1 .f32) (ix2 r (0 : Fin 1))
      = live v1 (512 * k.val + r.val) (v36 (ix3 0 r 0)) := by
    rw [select_apply]
    show Scalar.select (IntOp.cmpi .slt (IntOp.addi (Scalar.muli (Scf.iv 0#32 1#32 k.val) 512#32 : BitVec 32) (iota .tc S512x1 32 [0] iota_S512x1_d0_w32 (ix2 r (0 : Fin 1)))) v1)
      (shapeCast S512x1 v36 shapeCasts_S1x512x1_S512x1 (ix2 r (0 : Fin 1))) (Ideal.ofBits .f32 0x00000000#32) = _
    rw [iota_single_apply, cmpi_row _ v1 (512 * k.val + r.val) (row_word k.val r.val hk r.isLt) (by have := r.isLt; omega),
      select_ofBool, shapeCast_1ab_ab_apply, Ideal.ofBits_zero_f32]
    rfl
  rw [mulf_apply, mulf_apply, bcast_col, truncf_apply, hs, bcast_col, truncf_apply, hs, extf_apply, extf_apply, shapeCast_1ab_ab_apply, shapeCast_1ab_ab_apply]

/-- The accumulator starts at zero. -/
theorem pay1_apply (j : S1024x1024.Idx) : (k0_pay1 (F := Ideal) : S1024x1024.Idx → EReal) j = 0 := by
  unfold k0_pay1
  rw [shapeCast_self]
  exact Ideal.ofBits_zero_f32

/-- What the body stores into the result, at an element. -/
theorem pay4_apply (h : Vec Ideal S1x1024x1024 .f32) (k a : Ideal .f32) (x : Vec Ideal S1024x1024 .f32) (p q : Fin 1024) :
    (k0_pay4 (F := Ideal) h k a x : S1x1024x1024.Idx → EReal) (ix3 0 p q)
      = (h (ix3 0 p q) : EReal) * (k : EReal) + (a : EReal) * (x (ix2 p q) : EReal) := by
  unfold k0_pay4
  rw [shapeCast_ab_1ab_apply, addf_apply, mulf_apply, mulf_apply, shapeCast_1ab_ab_apply]
  rfl

/-- Row `r`'s contribution to the element `(a, b)` of the product: the two columns' codes at that row, each scaled. -/
def rowTerm (v : BitVec 32) (x2 x3 : Vec Ideal S1x7680x1024 .fp8e4m3) (x4 : Vec Ideal S1x7680x1 .f32) (a b : Fin 1024) (r : Fin 7680) : EReal :=
  ((x2 (ix3 0 r a) : EReal) * live v r.val (x4 (ix3 0 r 0))) * ((x3 (ix3 0 r b) : EReal) * live v r.val (x4 (ix3 0 r 0)))

/-- The same for any number, zero past the last row. -/
def term (v : BitVec 32) (x2 x3 : Vec Ideal S1x7680x1024 .fp8e4m3) (x4 : Vec Ideal S1x7680x1 .f32) (a b : Fin 1024) (r : ℕ) : EReal :=
  if h : r < 7680 then rowTerm v x2 x3 x4 a b ⟨r, h⟩ else 0

/-- A chunk of 512 rows starting at row `o`, read at its row `r`, is the block's row `o + r`. -/
theorem ld_rows {n : ℕ} {e : EltTy} {off : Fin 3 → ℕ} (o : ℕ) (x : (⟨3, ![1, 7680, n]⟩ : Shape).Idx → Elt Ideal e)
    (inb : ∀ a, off a + (![1, 512, n] : Fin 3 → ℕ) a ≤ (⟨3, ![1, 7680, n]⟩ : Shape).size a) (ho : off = ![0, o, 0])
    (r : Fin 512) (c : Fin n) (h : o + r.val < 7680) :
    View.ld (Val := Elt Ideal) x (Rect.unit (s := ⟨3, ![1, 7680, n]⟩) off ![1, 512, n] inb) (ix3 0 r c) = x (ix3 0 ⟨o + r.val, h⟩ c) := by
  subst ho
  refine congrArg x (funext fun a => Fin.ext ?_)
  match a with
  | ⟨0, _⟩ => rfl
  | ⟨1, _⟩ => show o + 1 * r.val = o + r.val; omega
  | ⟨2, _⟩ => show 0 + 1 * c.val = c.val; omega

/-- After `n` trips the accumulator holds, at each element, the sum over the first `512 n` rows. -/
theorem accAt_apply (v : BitVec 32) (hv : v.toInt ≤ 7680) (hw : k0_chk1 v) (x2 x3 : Vec Ideal S1x7680x1024 .fp8e4m3) (x4 : Vec Ideal S1x7680x1 .f32)
    (a b : Fin 1024) (n : ℕ) (hn : n ≤ (k0_t1_loop v).trips) :
    (Block.accAt (F := Ideal) v hw x2 x3 x4 n : S1024x1024.Idx → EReal) (ix2 a b) = ∑ r ∈ Finset.range (512 * n), term v x2 x3 x4 a b r := by
  induction n with
  | zero => exact pay1_apply _
  | succ n ih =>
    have hlt : n < (k0_t1_loop v).trips := hn
    have h15 : n < 15 := lt_of_lt_of_le (hlt.trans_eq (Sizes.trips1 v hv)) (Words.nChunks_le v hv)
    rw [Block.accAt_succ _ _ _ _ _ n hlt, pay2_apply v ⟨n, hlt⟩ h15, ih (Nat.le_of_lt hlt), Nat.mul_succ, Finset.sum_range_add]
    refine congrArg (_ + ·) ?_
    rw [Finset.sum_range]
    refine Finset.sum_congr rfl fun r _ => ?_
    have hr : 512 * n + r.val < 7680 := by have := r.isLt; omega
    unfold term
    rw [dif_pos hr]
    unfold rowTerm
    rw [← ld_rows (512 * n) x2 (k0_off3_inb v hw ⟨n, hlt⟩) (Sizes.off3_eq v hv ⟨n, hlt⟩) r a hr,
      ← ld_rows (512 * n) x3 (k0_off3_inb v hw ⟨n, hlt⟩) (Sizes.off3_eq v hv ⟨n, hlt⟩) r b hr,
      ← ld_rows (512 * n) x4 (k0_off2_inb v hw ⟨n, hlt⟩) (Sizes.off2_eq v hv ⟨n, hlt⟩) r 0 hr]

/-- A row at or past the group size contributes nothing. -/
theorem term_of_le (v : BitVec 32) (x2 x3 : Vec Ideal S1x7680x1024 .fp8e4m3) (x4 : Vec Ideal S1x7680x1 .f32) (a b : Fin 1024) (r : ℕ)
    (h : v.toInt ≤ (r : ℤ)) : term v x2 x3 x4 a b r = 0 := by
  unfold term
  split
  · unfold rowTerm live
    rw [if_neg (by simpa using h), mul_zero, zero_mul]
  · rfl

/-- After the last trip the accumulator holds, at each element, the sum over all the rows. -/
theorem acc_final (v : BitVec 32) (hv : v.toInt ≤ 7680) (hw : k0_chk1 v) (x2 x3 : Vec Ideal S1x7680x1024 .fp8e4m3) (x4 : Vec Ideal S1x7680x1 .f32)
    (a b : Fin 1024) :
    (Block.accAt (F := Ideal) v hw x2 x3 x4 (k0_t1_loop v).trips : S1024x1024.Idx → EReal) (ix2 a b) = ∑ r : Fin 7680, rowTerm v x2 x3 x4 a b r := by
  rw [accAt_apply v hv hw x2 x3 x4 a b _ le_rfl, Sizes.trips1 v hv]
  have h15 := Words.nChunks_le v hv
  have hsub : Finset.range (512 * Words.nChunks v) ⊆ Finset.range 7680 := Finset.range_subset_range.mpr (by omega)
  rw [Finset.sum_subset hsub fun r _ hr => term_of_le v x2 x3 x4 a b r (by
    by_contra hlt
    exact hr (Finset.mem_range.mpr (Words.lt_nChunks v r (by omega)))), Finset.sum_range]
  exact Finset.sum_congr rfl fun r _ => dif_pos r.isLt

end Cert.KernelIdeal.Accum
end
-- ==== Proof.Blocks.lean ====
/- What the kernel's windows hold at each grid point, over the extended reals (hand-written, untrusted): the arrays the
   host prepares before the launch, and every block as entries of those arrays. -/
module

public import proofs.«01_k».proof.Proof.Accum
public import Idealize.ShloMosaic.Lib.StableHlo.RunRead

@[expose] public section

noncomputable section

namespace Cert.KernelIdeal.Blocks

open Cert.KernelIdeal Cert.KernelIdeal.Gen
open Idealize.ShloMosaic Idealize.ShloMosaic.TcCoe Idealize.ShloMosaic.ValueIdx Idealize.ShloMosaic.StableHlo

variable (m : (ℓ : Loc nD τ sig) → Buf (Elt Ideal) ℓ)

/-! ## The arrays the host prepares -/

/-- The updated counts: the counts plus the group sizes. -/
theorem V_v0 (c : Dev nD) : V m c main_v0
    = (addi (m ((c : Thread nD τ).loc main_arg4) : Vec Ideal S8 .i32) (m ((c : Thread nD τ).loc main_arg2)) : Vec Ideal S8 .i32) := by
  unfold V
  after_reads_simp
  try rfl

/-- The factor of the old matrix: the old counts over the updated counts. -/
theorem V_v3 (c : Dev nD) : V m c main_v3
    = (Host.divf (sitofp (F := Ideal) .f32 (m ((c : Thread nD τ).loc main_arg4) : Vec Ideal S8 .i32))
        (sitofp .f32 (addi (m ((c : Thread nD τ).loc main_arg4) : Vec Ideal S8 .i32) (m ((c : Thread nD τ).loc main_arg2)))) : Vec Ideal S8 .f32) := by
  unfold V
  after_reads_simp
  try rfl

/-- The factor of the new products: two over the updated counts. -/
theorem V_v5 (c : Dev nD) : V m c main_v5
    = (Host.divf (broadcastInDim S8 ![] bcast_S_S8 (constant (F := Ideal) S_ .f32 0x40000000#32))
        (sitofp .f32 (addi (m ((c : Thread nD τ).loc main_arg4) : Vec Ideal S8 .i32) (m ((c : Thread nD τ).loc main_arg2)))) : Vec Ideal S8 .f32) := by
  unfold V
  after_reads_simp
  try rfl

/-- The scales with a trailing axis of length one. -/
theorem V_v6 (c : Dev nD) : V m c main_v6
    = (broadcastInDim S8x7680x1 ![0, 1] bcast_S8x7680_S8x7680x1_0_1 (m ((c : Thread nD τ).loc main_arg1) : Vec Ideal S8x7680 .f32) : Vec Ideal S8x7680x1 .f32) := by
  unfold V
  after_reads_simp
  try rfl

/-! ## The index maps -/

/-- A coordinate below eight is itself as a word. -/
theorem coord_toNat (n : ℕ) (h : n < 8) : (BitVec.ofNat 32 n).toNat = n := by
  rw [BitVec.toNat_ofNat]; omega

/-- Column `a` of the `k`-th block of 1024 columns. -/
def col (k : Fin 4) (a : Fin 1024) : Fin 4096 := ⟨1024 * k.val + a.val, by have := k.isLt; have := a.isLt; omega⟩

/-! ## The blocks -/

/-- The first block of codes at a point: all rows of its expert, the columns of its first column block. -/
theorem iblk2_apply (hO : Ok m) (c : Dev nD) (t : Fin (cfgM m hO).N) (r : Fin 7680) (a : Fin 1024) :
    (iblk m hO c 2 t : Vec Ideal S1x7680x1024 .fp8e4m3) (ix3 0 r a)
      = (m ((c : Thread nD τ).loc main_arg0) : Vec Ideal S8x7680x4096 .fp8e4m3) (ix3 (grid0.coords t 0) r (col (grid0.coords t 1) a)) := by
  unfold iblk
  refine (View.read_apply ..).trans ?_
  show V m c main_arg0 _ = _
  rw [V_main_arg0]
  refine congrArg (m ((c : Thread nD τ).loc main_arg0)) (funext fun x => Fin.ext ?_)
  match x with
  | ⟨0, _⟩ =>
    show (BitVec.ofNat 32 (grid0.coords t 0).val).toNat * 1 + 1 * 0 = (grid0.coords t 0).val
    rw [coord_toNat _ (grid0.coords t 0).isLt]; omega
  | ⟨1, _⟩ => show 0 * 7680 + 1 * r.val = r.val; omega
  | ⟨2, _⟩ =>
    show (BitVec.ofNat 32 (grid0.coords t 1).val).toNat * 1024 + 1 * a.val = 1024 * (grid0.coords t 1).val + a.val
    rw [coord_toNat _ ((grid0.coords t 1).isLt.trans (by decide))]; omega

/-- The second block of codes at a point: all rows of its expert, the columns of its second column block. -/
theorem iblk3_apply (hO : Ok m) (c : Dev nD) (t : Fin (cfgM m hO).N) (r : Fin 7680) (a : Fin 1024) :
    (iblk m hO c 3 t : Vec Ideal S1x7680x1024 .fp8e4m3) (ix3 0 r a)
      = (m ((c : Thread nD τ).loc main_arg0) : Vec Ideal S8x7680x4096 .fp8e4m3) (ix3 (grid0.coords t 0) r (col (grid0.coords t 2) a)) := by
  unfold iblk
  refine (View.read_apply ..).trans ?_
  show V m c main_arg0 _ = _
  rw [V_main_arg0]
  refine congrArg (m ((c : Thread nD τ).loc main_arg0)) (funext fun x => Fin.ext ?_)
  match x with
  | ⟨0, _⟩ =>
    show (BitVec.ofNat 32 (grid0.coords t 0).val).toNat * 1 + 1 * 0 = (grid0.coords t 0).val
    rw [coord_toNat _ (grid0.coords t 0).isLt]; omega
  | ⟨1, _⟩ => show 0 * 7680 + 1 * r.val = r.val; omega
  | ⟨2, _⟩ =>
    show (BitVec.ofNat 32 (grid0.coords t 2).val).toNat * 1024 + 1 * a.val = 1024 * (grid0.coords t 2).val + a.val
    rw [coord_toNat _ ((grid0.coords t 2).isLt.trans (by decide))]; omega

/-- The block of scales at a point: its expert's. -/
theorem iblk4_apply (hO : Ok m) (c : Dev nD) (t : Fin (cfgM m hO).N) (r : Fin 7680) :
    (iblk m hO c 4 t : Vec Ideal S1x7680x1 .f32) (ix3 0 r 0)
      = (m ((c : Thread nD τ).loc main_arg1) : Vec Ideal S8x7680 .f32) (ix2 (grid0.coords t 0) r) := by
  unfold iblk
  refine (View.read_apply ..).trans ?_
  show V m c main_v6 _ = _
  rw [V_v6]
  refine congrArg (m ((c : Thread nD τ).loc main_arg1)) (funext fun x => Fin.ext ?_)
  match x with
  | ⟨0, _⟩ =>
    show (BitVec.ofNat 32 (grid0.coords t 0).val).toNat * 1 + 1 * 0 = (grid0.coords t 0).val
    rw [coord_toNat _ (grid0.coords t 0).isLt]; omega
  | ⟨1, _⟩ => show 0 * 7680 + 1 * r.val = r.val; omega

/-- The block of the old matrix at a point: its expert's, the rows of the first column block and the columns of the second. -/
theorem iblk5_apply (hO : Ok m) (c : Dev nD) (t : Fin (cfgM m hO).N) (p q : Fin 1024) :
    (iblk m hO c 5 t : Vec Ideal S1x1024x1024 .f32) (ix3 0 p q)
      = (m ((c : Thread nD τ).loc main_arg3) : Vec Ideal S8x4096x4096 .f32)
          (ix3 (grid0.coords t 0) (col (grid0.coords t 1) p) (col (grid0.coords t 2) q)) := by
  unfold iblk
  refine (View.read_apply ..).trans ?_
  show V m c main_arg3 _ = _
  rw [V_main_arg3]
  refine congrArg (m ((c : Thread nD τ).loc main_arg3)) (funext fun x => Fin.ext ?_)
  match x with
  | ⟨0, _⟩ =>
    show (BitVec.ofNat 32 (grid0.coords t 0).val).toNat * 1 + 1 * 0 = (grid0.coords t 0).val
    rw [coord_toNat _ (grid0.coords t 0).isLt]; omega
  | ⟨1, _⟩ =>
    show (BitVec.ofNat 32 (grid0.coords t 1).val).toNat * 1024 + 1 * p.val = 1024 * (grid0.coords t 1).val + p.val
    rw [coord_toNat _ ((grid0.coords t 1).isLt.trans (by decide))]; omega
  | ⟨2, _⟩ =>
    show (BitVec.ofNat 32 (grid0.coords t 2).val).toNat * 1024 + 1 * q.val = 1024 * (grid0.coords t 2).val + q.val
    rw [coord_toNat _ ((grid0.coords t 2).isLt.trans (by decide))]; omega

/-- The factors of the old matrix at a point: all of them. -/
theorem iblk0_apply (hO : Ok m) (c : Dev nD) (t : Fin (cfgM m hO).N) (e : S8.Idx) :
    (iblk m hO c 0 t : Vec Ideal S8 .f32) e = (V m c main_v3 : Vec Ideal S8 .f32) e := by
  unfold iblk
  refine (View.read_apply ..).trans ?_
  show V m c main_v3 _ = _
  refine congrArg (V m c main_v3) (funext fun x => Fin.ext ?_)
  match x with
  | ⟨0, _⟩ => show 0 * 8 + 1 * (e 0).val = (e 0).val; omega

/-- The factors of the new products at a point: all of them. -/
theorem iblk1_apply (hO : Ok m) (c : Dev nD) (t : Fin (cfgM m hO).N) (e : S8.Idx) :
    (iblk m hO c 1 t : Vec Ideal S8 .f32) e = (V m c main_v5 : Vec Ideal S8 .f32) e := by
  unfold iblk
  refine (View.read_apply ..).trans ?_
  show V m c main_v5 _ = _
  refine congrArg (V m c main_v5) (funext fun x => Fin.ext ?_)
  match x with
  | ⟨0, _⟩ => show 0 * 8 + 1 * (e 0).val = (e 0).val; omega

end Cert.KernelIdeal.Blocks
end
-- ==== Proof.Result.lean ====
/- The kernel's run read at its results, over the extended reals (hand-written, untrusted): the result matrix holds, at
   every entry, the old entry times its factor plus the new factor times the sum over the rows of the products of the two
   columns; the second result holds the counts plus the group sizes; the arguments are unchanged. -/
module

public import proofs.«01_k».proof.Proof.Blocks
public import Idealize.ShloMosaic.Lib.Pipeline.Covers

@[expose] public section

noncomputable section

namespace Cert.KernelIdeal.Result

open Cert.KernelIdeal Cert.KernelIdeal.Gen Cert.KernelIdeal.Blocks
open Idealize.ShloMosaic Idealize.ShloMosaic.TcCoe Idealize.ShloMosaic.ValueIdx

variable (m : (ℓ : Loc nD τ sig) → Buf (Elt Ideal) ℓ) (ρ : Dev nD → PrngReg)

/-- One row's contribution to entry `(i, j)` of expert `e`'s products: the two codes of the row, each scaled by the row's
    scale inside the group and by zero past it. -/
def prod (x0 : Vec Ideal S8x7680x4096 .fp8e4m3) (x1 : Vec Ideal S8x7680 .f32) (v : BitVec 32) (e : Fin 8) (i j : Fin 4096) (r : Fin 7680) : EReal :=
  ((x0 (ix3 e r i) : EReal) * Accum.live v r.val (x1 (ix2 e r))) * ((x0 (ix3 e r j) : EReal) * Accum.live v r.val (x1 (ix2 e r)))

/-- Entry `(i, j)` of expert `e`'s new matrix: the old entry times its factor, plus the new factor times the sum of the
    rows' contributions. -/
def entry (x0 : Vec Ideal S8x7680x4096 .fp8e4m3) (x1 : Vec Ideal S8x7680 .f32) (x2 : Vec Ideal S8 .i32)
    (x3 : Vec Ideal S8x4096x4096 .f32) (keep add : Vec Ideal S8 .f32) (e : Fin 8) (i j : Fin 4096) : EReal :=
  (x3 (ix3 e i j) : EReal) * (keep (ix1 e) : EReal)
    + (add (ix1 e) : EReal) * ∑ r : Fin 7680, prod x0 x1 (x2 (ix1 e)) e i j r

/-- The result matrix. -/
def result (c : Dev nD) : Vec Ideal S8x4096x4096 .f32 := fun x =>
  entry (m ((c : Thread nD τ).loc main_arg0)) (m ((c : Thread nD τ).loc main_arg1)) (m ((c : Thread nD τ).loc main_arg2))
    (m ((c : Thread nD τ).loc main_arg3)) (V m c main_v3) (V m c main_v5) (x 0) (x 1) (x 2)

/-- A point's expert is its first coordinate. -/
theorem expert_eq (i : grid0.Coords) : Block.expert i = (ix1 (i 0) : S8.Idx) := funext fun a => match a with | ⟨0, _⟩ => rfl

/-- What the body leaves in the result's staging buffer, at an element, for any contents of its windows and any table of
    group sizes none of which exceeds the number of rows. -/
theorem out_apply (c : Dev nD) (i : grid0.Coords) (arg4 : Memref sig .tc .smem S8 .f32) (harg4 : arg4.IsWhole) (arg5 : Memref sig .tc .smem S8 .f32) (harg5 : arg5.IsWhole) (arg6 : Memref sig .tc .vmem S1x7680x1024 .fp8e4m3) (harg6 : arg6.IsWhole) (arg7 : Memref sig .tc .vmem S1x7680x1024 .fp8e4m3) (harg7 : arg7.IsWhole) (arg8 : Memref sig .tc .vmem S1x7680x1 .f32) (harg8 : arg8.IsWhole) (arg9 : Memref sig .tc .vmem S1x1024x1024 .f32) (harg9 : arg9.IsWhole) (arg10 : Memref sig .tc .vmem S1x1024x1024 .f32) (harg10 : arg10.IsWhole) (arg11 : Memref sig .tc .vmem S1024x1024 .f32) (harg11 : arg11.IsWhole)
    (x0 : Vec Ideal S8 .f32) (x1 : Vec Ideal S8 .f32) (x2 : Vec Ideal S1x7680x1024 .fp8e4m3) (x3 : Vec Ideal S1x7680x1024 .fp8e4m3) (x4 : Vec Ideal S1x7680x1 .f32) (x5 : Vec Ideal S1x1024x1024 .f32) (xt0 : TbBuf0 (F := Ideal) c tbM0_0) (k0_hw1)
    (hle : ∀ y : S8.Idx, (xt0 y : BitVec 32).toInt ≤ 7680) (p q : Fin 1024) :
    (out0_A_6 c i arg4 harg4 arg5 harg5 arg6 harg6 arg7 harg7 arg8 harg8 arg9 harg9 arg10 harg10 arg11 harg11 x0 x1 x2 x3 x4 x5 xt0 k0_hw1
        : S1x1024x1024.Idx → EReal) (ix3 0 p q)
      = (x5 (ix3 0 p q) : EReal) * (x0 (ix1 (i 0)) : EReal)
        + (x1 (ix1 (i 0)) : EReal) * ∑ r : Fin 7680, Accum.rowTerm (xt0 (ix1 (i 0) : S8.Idx)) x2 x3 x4 p q r := by
  rw [Block.out_A _ _ _ _ _ _ _ _ _ _ _ _ _ _ _ _ _ _ _ _ _ _ _ _ _ _ (Sizes.trips2 _), Accum.pay4_apply,
    Accum.acc_final _ (Sizes.word_le (c := c) xt0 hle _ _), Block.word_eq (c := c) xt0, expert_eq]

/-- What the body leaves in the result's staging buffer at a point, at an element. -/
theorem outsAt_apply (hH : Hyps m (Sizes.ok_of_pre m)) (h : Cert.Pre_KernelIdeal m) (c : Dev nD) (t : Fin (cfgM m (Sizes.ok_of_pre m)).N) (p q : Fin 1024) :
    (outsAt0 m (Sizes.ok_of_pre m) hH c t : Vec Ideal S1x1024x1024 .f32) (ix3 0 p q)
      = entry (m ((c : Thread nD τ).loc main_arg0)) (m ((c : Thread nD τ).loc main_arg1)) (m ((c : Thread nD τ).loc main_arg2))
          (m ((c : Thread nD τ).loc main_arg3)) (V m c main_v3) (V m c main_v5)
          (grid0.coords t 0) (col (grid0.coords t 1) p) (col (grid0.coords t 2) q) := by
  obtain rfl : c = 0 := Subsingleton.elim _ _
  have hle : ∀ y : S8.Idx, (tbl m 0 y : BitVec 32).toInt ≤ 7680 := fun y => by
    show (V m 0 main_arg2 y : BitVec 32).toInt ≤ 7680
    rw [V_main_arg2]
    exact Sizes.size_le m h 0 y
  unfold outsAt0
  refine (out_apply 0 (grid0.coords t) _ _ _ _ _ _ _ _ _ _ _ _ _ _ _ _ _ _ _ _ _ _ (tbl m 0) _ hle p q).trans ?_
  have hw : (tbl m 0 (ix1 (grid0.coords t 0) : S8.Idx) : BitVec 32) = m (((0 : Dev nD) : Thread nD τ).loc main_arg2) (ix1 (grid0.coords t 0)) := by
    show V m 0 main_arg2 _ = _
    rw [V_main_arg2]
  unfold entry
  refine congrArg₂ (fun a b : EReal => a + b)
    (congrArg₂ (fun a b : EReal => a * b) (iblk5_apply m _ 0 t p q) (iblk0_apply m _ 0 t _))
    (congrArg₂ (fun a b : EReal => a * b) (iblk1_apply m _ 0 t _) (Finset.sum_congr rfl fun r _ => ?_))
  unfold Accum.rowTerm prod
  refine congrArg₂ (fun a b : EReal => a * b)
    (congrArg₂ (fun a b : EReal => a * b) (iblk2_apply m _ 0 t r p)
      (congrArg₂ (fun (v : BitVec 32) (s : EReal) => Accum.live v r.val s) hw (iblk4_apply m _ 0 t r)))
    (congrArg₂ (fun a b : EReal => a * b) (iblk3_apply m _ 0 t r q)
      (congrArg₂ (fun (v : BitVec 32) (s : EReal) => Accum.live v r.val s) hw (iblk4_apply m _ 0 t r)))

/-- What a point writes back is its block of the result matrix. -/
theorem flushed_eq (hH : Hyps m (Sizes.ok_of_pre m)) (h : Cert.Pre_KernelIdeal m) (c : Dev nD) (t : Fin (cfgM m (Sizes.ok_of_pre m)).N) :
    (dats m (Sizes.ok_of_pre m) hH 0 c).flushed 6 t
      = (((cfgM m (Sizes.ok_of_pre m)).win 6).blk t).view.read (Elt Ideal) (result m c) := by
  show ((cfgM m (Sizes.ok_of_pre m)).win 6).cut (grid0.coords t) ((dats m (Sizes.ok_of_pre m) hH 0 c).after 6 t) = _
  rw [after0_6]
  refine funext fun (j : S1x1024x1024.Idx) => ?_
  obtain ⟨p, q, rfl⟩ : ∃ p q : Fin 1024, j = ix3 (0 : Fin 1) p q := ⟨j 1, j 2, funext fun a => match a with
    | ⟨0, _⟩ => Subsingleton.elim (α := Fin 1) _ _
    | ⟨1, _⟩ => rfl
    | ⟨2, _⟩ => rfl⟩
  refine Eq.trans (outsAt_apply m hH h c t p q) ?_
  refine Eq.trans ?_ (View.read_apply ..).symm
  show _ = result m c _
  have hb : ∀ (x : S8x4096x4096.Idx) (e : Fin 8) (a b : Fin 4096), x = ix3 e a b →
      result m c x = entry (m ((c : Thread nD τ).loc main_arg0)) (m ((c : Thread nD τ).loc main_arg1)) (m ((c : Thread nD τ).loc main_arg2))
        (m ((c : Thread nD τ).loc main_arg3)) (V m c main_v3) (V m c main_v5) e a b := by
    rintro x e a b rfl; rfl
  refine (hb _ _ _ _ (funext fun x => Fin.ext ?_)).symm
  match x with
  | ⟨0, _⟩ =>
    show (BitVec.ofNat 32 (grid0.coords t 0).val).toNat * 1 + 1 * 0 = (grid0.coords t 0).val
    rw [coord_toNat _ (grid0.coords t 0).isLt]; omega
  | ⟨1, _⟩ =>
    show (BitVec.ofNat 32 (grid0.coords t 1).val).toNat * 1024 + 1 * p.val = 1024 * (grid0.coords t 1).val + p.val
    rw [coord_toNat _ ((grid0.coords t 1).isLt.trans (by decide))]; omega
  | ⟨2, _⟩ =>
    show (BitVec.ofNat 32 (grid0.coords t 2).val).toNat * 1024 + 1 * q.val = 1024 * (grid0.coords t 2).val + q.val
    rw [coord_toNat _ ((grid0.coords t 2).isLt.trans (by decide))]; omega

/-- The point whose block holds a given entry. -/
def pt (x : S8x4096x4096.Idx) : grid0.Coords := fun a => match a with
  | ⟨0, _⟩ => (⟨(x 0).val, (x 0).isLt⟩ : Fin 8)
  | ⟨1, _⟩ => (⟨(x 1).val / 1024, by have h : (x 1).val < 4096 := (x 1).isLt; omega⟩ : Fin 4)
  | ⟨2, _⟩ => (⟨(x 2).val / 1024, by have h : (x 2).val < 4096 := (x 2).isLt; omega⟩ : Fin 4)

/-- Every entry of the result lies in the block some point writes back. -/
theorem cover (x : S8x4096x4096.Idx) :
    ∃ t : Fin (cfgM m (Sizes.ok_of_pre m)).N, ((cfgM m (Sizes.ok_of_pre m)).win 6).flush t = true
      ∧ x ∈ (((cfgM m (Sizes.ok_of_pre m)).win 6).blk t).view.set := by
  obtain ⟨t, ht⟩ := grid0.coords_surjective (pt x)
  refine ⟨t, flush0_6 _ t, ?_⟩
  refine (Pipeline.Window.emb_mem_blk_iff ((cfgM m (Sizes.ok_of_pre m)).win 6) t x (by rfl)).mpr fun (a : Fin 3) => ?_
  have h0 : (x 0).val < 8 := (x 0).isLt
  have h1 : (x 1).val < 4096 := (x 1).isLt
  have h2 : (x 2).val < 4096 := (x 2).isLt
  have e0 : (grid0.coords t 0).val = (x 0).val := by rw [ht]; rfl
  have e1 : (grid0.coords t 1).val = (x 1).val / 1024 := by rw [ht]; rfl
  have e2 : (grid0.coords t 2).val = (x 2).val / 1024 := by rw [ht]; rfl
  match a with
  | ⟨0, _⟩ =>
    show (BitVec.ofNat 32 (grid0.coords t 0).val).toNat * 1 ≤ (x 0).val ∧ (x 0).val < (BitVec.ofNat 32 (grid0.coords t 0).val).toNat * 1 + 1
    rw [e0, coord_toNat _ h0]; omega
  | ⟨1, _⟩ =>
    show (BitVec.ofNat 32 (grid0.coords t 1).val).toNat * 1024 ≤ (x 1).val ∧ (x 1).val < (BitVec.ofNat 32 (grid0.coords t 1).val).toNat * 1024 + 1024
    rw [e1, coord_toNat _ (by omega)]; omega
  | ⟨2, _⟩ =>
    show (BitVec.ofNat 32 (grid0.coords t 2).val).toNat * 1024 ≤ (x 2).val ∧ (x 2).val < (BitVec.ofNat 32 (grid0.coords t 2).val).toNat * 1024 + 1024
    rw [e2, coord_toNat _ (by omega)]; omega

/-- So the result array ends holding the result matrix. -/
theorem final_o (hH : Hyps m (Sizes.ok_of_pre m)) (h : Cert.Pre_KernelIdeal m) (c : Dev nD) :
    (dats m (Sizes.ok_of_pre m) hH 0 c).arrAt 6 (cfgM m (Sizes.ok_of_pre m)).N = result m c :=
  (dats m (Sizes.ok_of_pre m) hH 0 c).arrAt_eq_of_cover 6 (result m c) (fun t _ => flushed_eq m hH h c t) (cover m)

/-- The run, read: the result matrix, the updated counts, the arguments unchanged. -/
theorem run (h : Cert.Pre_KernelIdeal m) :
    θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_v0)
        = (addi (m ((c : Thread nD τ).loc main_arg4) : Vec Ideal S8 .i32) (m ((c : Thread nD τ).loc main_arg2)) : Vec Ideal S8 .i32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  have hH := Sizes.hyps_of_pre m h
  (θ_run defs _ _).mono (fun _ hr c => ⟨((hr c).1 6).trans (final_o m hH h c),
      ((hr c).2 main_v0 (by decide : main_v0 ∈ Pipeline.restRefs sig spec0)).trans (V_v0 m c),
      ((hr c).1 3).trans (((dats m (Sizes.ok_of_pre m) hH 0 c).arrAt_in 3 rfl _).trans ((A_eq m (Sizes.ok_of_pre m) hH c 3).trans (V_main_arg0 m c))),
      ((hr c).2 main_arg1 (by decide : main_arg1 ∈ Pipeline.restRefs sig spec0)).trans (V_main_arg1 m c),
      ((hr c).2 main_arg2 (by decide : main_arg2 ∈ Pipeline.restRefs sig spec0)).trans (V_main_arg2 m c),
      ((hr c).1 5).trans (((dats m (Sizes.ok_of_pre m) hH 0 c).arrAt_in 5 rfl _).trans ((A_eq m (Sizes.ok_of_pre m) hH c 5).trans (V_main_arg3 m c))),
      ((hr c).2 main_arg4 (by decide : main_arg4 ∈ Pipeline.restRefs sig spec0)).trans (V_main_arg4 m c)⟩)
    (run_main m ρ (Sizes.ok_of_pre m) hH)

end Cert.KernelIdeal.Result
end
-- ==== Proof.RefValue.lean ====
/- The reference's run read at its result matrix, over the extended reals (hand-written, untrusted): the upper triangle
   of the Gram matrix plus the transpose of its strict upper triangle is the Gram matrix, since each row's product of two
   columns does not depend on their order; so every entry is the one the kernel's result holds. -/
module

public import proofs.«01_k».proof.Proof.Result
public import proofs.«01_k».proof.Proof.Gen.ReferenceIdeal.Read

@[expose] public section

noncomputable section

namespace Cert.ReferenceIdeal.RefValue

open Cert.ReferenceIdeal Cert.ReferenceIdeal.Gen Cert.ReferenceIdeal.Value Cert.ReferenceIdeal.Read
open Idealize.ShloMosaic Idealize.ShloMosaic.TcCoe Idealize.ShloMosaic.ValueIdx
open Cert.KernelIdeal.Accum (live cmpi_row select_ofBool)

variable (m : (ℓ : Loc nD τ sig) → Buf (Elt Ideal) ℓ)

/-! ## The widened codes -/

/-- What the body leaves in its output: its input widened, which over the extended reals is its input. -/
theorem out_eq (x : Vec Ideal S8x7680x4096 .fp8e4m3) : out0_1 (F := Ideal) x = (extf .bf16 x bitsLt_fp8e4m3_bf16 : FVec Ideal S8x7680x4096 .bf16) := by
  unfold out0_1
  rw [View.canon_unit_zero Cert.KernelIdeal.Block.hz3]
  unfold k0_pay1
  rw [View.ld_unit_zero (S := S8x7680x4096) Cert.KernelIdeal.Block.hz3]

/-- The only block of the codes is the array of codes. -/
theorem iblk_apply (c : Dev nD) (t : Fin cfg0.N) (x : S8x7680x4096.Idx) :
    (iblk m c 0 t : Vec Ideal S8x7680x4096 .fp8e4m3) x = (m ((c : Thread nD τ).loc main_arg0) : Vec Ideal S8x7680x4096 .fp8e4m3) x := by
  unfold iblk
  refine (View.read_apply ..).trans ?_
  show V m c main_arg0 _ = _
  rw [V_main_arg0]
  refine congrArg (m ((c : Thread nD τ).loc main_arg0)) (funext fun a => Fin.ext ?_)
  match a with
  | ⟨0, _⟩ => show 0 * 8 + 1 * (x 0).val = (x 0).val; omega
  | ⟨1, _⟩ => show 0 * 7680 + 1 * (x 1).val = (x 1).val; omega
  | ⟨2, _⟩ => show 0 * 4096 + 1 * (x 2).val = (x 2).val; omega

/-- The widened codes, as an array. -/
def wide (c : Dev nD) : Vec Ideal S8x7680x4096 .bf16 := fun x => (m ((c : Thread nD τ).loc main_arg0) : Vec Ideal S8x7680x4096 .fp8e4m3) x

/-- The block that the one step writes back is the codes. -/
theorem flushed_eq (c : Dev nD) (t : Fin cfg0.N) :
    (dats m 0 c).flushed 1 t = ((cfg0.win 1).blk t).view.read (Elt Ideal) (wide m c) := by
  show (cfg0.win 1).cut (grid0.coords t) ((dats m 0 c).after 1 t) = _
  rw [after0_1, out_eq]
  refine funext fun (x : S8x7680x4096.Idx) => ?_
  refine Eq.trans (iblk_apply m c t x) ?_
  refine Eq.trans ?_ (View.read_apply ..).symm
  show _ = wide m c _
  refine congrArg (m ((c : Thread nD τ).loc main_arg0)) (funext fun a => Fin.ext ?_)
  match a with
  | ⟨0, _⟩ => show (x 0).val = 0 * 8 + 1 * (x 0).val; omega
  | ⟨1, _⟩ => show (x 1).val = 0 * 7680 + 1 * (x 1).val; omega
  | ⟨2, _⟩ => show (x 2).val = 0 * 4096 + 1 * (x 2).val; omega

/-- The one step writes back every element. -/
theorem cover (x : S8x7680x4096.Idx) : ∃ t : Fin cfg0.N, (cfg0.win 1).flush t = true ∧ x ∈ ((cfg0.win 1).blk t).view.set := by
  refine ⟨⟨0, by decide⟩, flush0_1 _, ?_⟩
  refine (Pipeline.Window.emb_mem_blk_iff (cfg0.win 1) _ x (by rfl)).mpr fun (a : Fin 3) => ?_
  match a with
  | ⟨0, _⟩ => show 0 * 8 ≤ (x 0).val ∧ (x 0).val < 0 * 8 + 8; have h : (x 0).val < 8 := (x 0).isLt; omega
  | ⟨1, _⟩ => show 0 * 7680 ≤ (x 1).val ∧ (x 1).val < 0 * 7680 + 7680; have h : (x 1).val < 7680 := (x 1).isLt; omega
  | ⟨2, _⟩ => show 0 * 4096 ≤ (x 2).val ∧ (x 2).val < 0 * 4096 + 4096; have h : (x 2).val < 4096 := (x 2).isLt; omega

/-- The widening's result array ends holding the codes. -/
theorem reg_eq (c : Dev nD) : reg_main_v0 m c = wide m c :=
  (dats m 0 c).arrAt_eq_of_cover 1 (wide m c) (fun t _ => flushed_eq m c t) cover

/-! ## The operations after it, at an element -/

section ops
variable (x1 : Vec Ideal S8x7680 .f32) (x2 x4 : Vec Ideal S8 .i32) (x3 : Vec Ideal S8x4096x4096 .f32) (r0 : Vec Ideal S8x7680x4096 .bf16)

/-- The scales broadcast along the columns read the row's scale. -/
theorem v3_at (e : Fin 8) (r : Fin 7680) (i : Fin 4096) :
    (val_main_v3 (F := Ideal) x1 (ix3 e r i) : EReal) = x1 (ix2 e r) := by
  rw [val_main_v3_apply, val_main_v2_apply, val_main_v1_apply]
  exact congrArg x1 (funext fun a => match a with | ⟨0, _⟩ => rfl | ⟨1, _⟩ => rfl)

/-- The mask at a row: whether the row lies inside its expert's group. -/
theorem mask_at (e : Fin 8) (r : Fin 7680) (i : Fin 4096) :
    (val_main_call0_v0 (F := Ideal) x2 (ix3 e r i) : BitVec 1) = BitVec.ofBool (decide ((r.val : ℤ) < (x2 (ix1 e) : BitVec 32).toInt)) := by
  rw [val_main_call0_v0_apply, val_main_v11_apply, val_main_v10_apply, val_main_v8_apply, val_main_v6_apply, val_main_v5_apply,
    val_main_v9_apply, val_main_v7_apply]
  refine (cmpi_row _ _ r.val ?_ r.isLt).trans ?_
  · show (BitVec.ofNat 32 r.val).toNat = r.val
    rw [BitVec.toNat_ofNat]; have := r.isLt; omega
  · exact congrArg (fun y => BitVec.ofBool (decide ((r.val : ℤ) < (x2 y : BitVec 32).toInt))) (funext fun a => match a with | ⟨0, _⟩ => rfl)

/-- A masked scaled code: the code times the row's scale inside the group, zero past it. -/
theorem v12_at (e : Fin 8) (r : Fin 7680) (i : Fin 4096) :
    (val_main_v12 (F := Ideal) x1 x2 r0 (ix3 e r i) : EReal) = (r0 (ix3 e r i) : EReal) * live (x2 (ix1 e)) r.val (x1 (ix2 e r)) := by
  rw [val_main_v12_apply, mask_at, select_ofBool, val_main_call0_v1_apply, val_main_cst_apply, val_main_v4_apply, v3_at]
  unfold live
  split
  · rfl
  · rw [mul_zero]; show Ideal.ofBits .bf16 0x0000#16 = 0; simp [Ideal.ofBits, Ideal.ieee]

/-- Entry `(i, j)` of an expert's Gram matrix. -/
def gram (e : Fin 8) (i j : Fin 4096) : EReal :=
  ∑ r : Fin 7680, ((r0 (ix3 e r i) : EReal) * live (x2 (ix1 e)) r.val (x1 (ix2 e r))) * ((r0 (ix3 e r j) : EReal) * live (x2 (ix1 e)) r.val (x1 (ix2 e r)))

/-- The Gram matrix is symmetric. -/
theorem gram_comm (e : Fin 8) (i j : Fin 4096) : gram x1 x2 r0 e i j = gram x1 x2 r0 e j i :=
  Finset.sum_congr rfl fun _ _ => mul_comm _ _

/-- The product of the masked scaled codes with themselves, at an element. -/
theorem v13_at (e : Fin 8) (i j : Fin 4096) :
    (val_main_v13 (F := Ideal) x1 x2 r0 (ix3 e i j) : EReal) = gram x1 x2 r0 e i j := by
  rw [val_main_v13_apply]
  refine Finset.sum_congr rfl fun r _ => congrArg₂ (fun a b : EReal => a * b) ?_ ?_
  · refine Eq.trans (congrArg _ (funext fun a => ?_)) (v12_at x1 x2 r0 e r i)
    match a with | ⟨0, _⟩ => rfl | ⟨1, _⟩ => rfl | ⟨2, _⟩ => rfl
  · refine Eq.trans (congrArg _ (funext fun a => ?_)) (v12_at x1 x2 r0 e r j)
    match a with | ⟨0, _⟩ => rfl | ⟨1, _⟩ => rfl | ⟨2, _⟩ => rfl

/-- Below 4096, "row less one is at least the column", as signed words, is "column below row". -/
theorem sge_pred (a b : ℕ) (ha : a < 4096) (hb : b < 4096) :
    IntOp.cmpi .sge (IntOp.addi (BitVec.ofNat 32 a) 4294967295#32 : BitVec 32) (BitVec.ofNat 32 b) = BitVec.ofBool (decide (b < a)) := by
  show BitVec.ofBool (decide ((BitVec.ofNat 32 b).toInt ≤ (BitVec.ofNat 32 a + 4294967295#32 : BitVec 32).toInt)) = _
  refine congrArg BitVec.ofBool (decide_eq_decide.mpr ?_)
  rw [BitVec.toInt_eq_toNat_cond, BitVec.toInt_eq_toNat_cond, BitVec.toNat_add, BitVec.toNat_ofNat, BitVec.toNat_ofNat, BitVec.toNat_ofNat]
  split <;> split <;> omega

/-- Below 4096, "row is at least the column", as signed words. -/
theorem sge_self (a b : ℕ) (ha : a < 4096) (hb : b < 4096) :
    IntOp.cmpi .sge (IntOp.addi (BitVec.ofNat 32 a) 0#32 : BitVec 32) (BitVec.ofNat 32 b) = BitVec.ofBool (decide (b ≤ a)) := by
  show BitVec.ofBool (decide ((BitVec.ofNat 32 b).toInt ≤ (BitVec.ofNat 32 a + 0#32 : BitVec 32).toInt)) = _
  refine congrArg BitVec.ofBool (decide_eq_decide.mpr ?_)
  rw [BitVec.toInt_eq_toNat_cond, BitVec.toInt_eq_toNat_cond, BitVec.toNat_add, BitVec.toNat_ofNat, BitVec.toNat_ofNat, BitVec.toNat_ofNat]
  split <;> split <;> omega

/-- The upper triangle of the Gram matrix. -/
theorem v14_at (e : Fin 8) (i j : Fin 4096) :
    (val_main_v14 (F := Ideal) x1 x2 r0 (ix3 e i j) : EReal) = if j.val < i.val then 0 else gram x1 x2 r0 e i j := by
  have hm : (val_main_call1_v5 (F := Ideal) (ix3 e i j) : BitVec 1) = BitVec.ofBool (decide (j.val < i.val)) := by
    rw [val_main_call1_v5_apply, val_main_call1_v4_apply, val_main_call1_v2_apply, val_main_call1_v0_apply, val_main_call1_v1_apply,
      val_main_call1_c_apply, val_main_call1_v3_apply]
    exact sge_pred i.val j.val i.isLt j.isLt
  rw [val_main_v14_apply, hm, select_ofBool, v13_at, val_main_call1_v6_apply, val_main_call1_cst_apply]
  split
  · exact Ideal.ofBits_zero_f32
  · rfl

/-- The strict upper triangle of the Gram matrix. -/
theorem v15_at (e : Fin 8) (i j : Fin 4096) :
    (val_main_v15 (F := Ideal) x1 x2 r0 (ix3 e i j) : EReal) = if j.val ≤ i.val then 0 else gram x1 x2 r0 e i j := by
  have hm : (val_main_call2_v5 (F := Ideal) (ix3 e i j) : BitVec 1) = BitVec.ofBool (decide (j.val ≤ i.val)) := by
    rw [val_main_call2_v5_apply, val_main_call2_v4_apply, val_main_call2_v2_apply, val_main_call2_v0_apply, val_main_call2_v1_apply,
      val_main_call2_c_apply, val_main_call2_v3_apply]
    exact sge_self i.val j.val i.isLt j.isLt
  rw [val_main_v15_apply, hm, select_ofBool, v13_at, val_main_call2_v6_apply, val_main_call2_cst_apply]
  split
  · exact Ideal.ofBits_zero_f32
  · rfl

/-- The upper triangle plus the transposed strict upper triangle is the Gram matrix. -/
theorem v17_at (e : Fin 8) (i j : Fin 4096) :
    (val_main_v17 (F := Ideal) x1 x2 r0 (ix3 e i j) : EReal) = gram x1 x2 r0 e i j := by
  have ht : (val_main_v16 (F := Ideal) x1 x2 r0 (ix3 e i j) : EReal) = if i.val ≤ j.val then 0 else gram x1 x2 r0 e j i := by
    rw [val_main_v16_apply]
    refine Eq.trans (congrArg _ (funext fun a => ?_)) (v15_at x1 x2 r0 e j i)
    match a with | ⟨0, _⟩ => rfl | ⟨1, _⟩ => rfl | ⟨2, _⟩ => rfl
  rw [val_main_v17_apply, v14_at, ht]
  show (_ : EReal) + _ = _
  by_cases h : j.val < i.val
  · rw [if_pos h, if_neg (by omega), zero_add, gram_comm]
  · rw [if_neg h, if_pos (by omega), add_zero]

/-- The factor of the old matrix at an element: the expert's. -/
theorem v26_at (e : Fin 8) (i j : Fin 4096) :
    (val_main_v26 (F := Ideal) x2 x4 (ix3 e i j) : EReal) = (val_main_v21 (F := Ideal) x2 x4 (ix1 e) : EReal) := by
  rw [val_main_v26_apply, val_main_v22_apply]
  exact congrArg (val_main_v21 (F := Ideal) x2 x4) (funext fun a => match a with | ⟨0, _⟩ => rfl)

/-- The factor of the new products at an element: the expert's. -/
theorem v28_at (e : Fin 8) (i j : Fin 4096) :
    (val_main_v28 (F := Ideal) x2 x4 (ix3 e i j) : EReal) = (val_main_v24 (F := Ideal) x2 x4 (ix1 e) : EReal) := by
  rw [val_main_v28_apply, val_main_v25_apply]
  exact congrArg (val_main_v24 (F := Ideal) x2 x4) (funext fun a => match a with | ⟨0, _⟩ => rfl)

/-- The reference's result matrix at an element. -/
theorem v30_at (e : Fin 8) (i j : Fin 4096) :
    (val_main_v30 (F := Ideal) x1 x2 x3 x4 r0 (ix3 e i j) : EReal)
      = (x3 (ix3 e i j) : EReal) * (val_main_v21 (F := Ideal) x2 x4 (ix1 e) : EReal)
        + (val_main_v24 (F := Ideal) x2 x4 (ix1 e) : EReal) * gram x1 x2 r0 e i j := by
  rw [val_main_v30_apply, val_main_v27_apply, val_main_v29_apply, v26_at, v28_at, v17_at]
  rfl

end ops

/-- The reference's result matrix is its operations' composed value at its arguments and the widened codes. -/
theorem res_eq (c : Dev nD) : res_main_v30 m c
    = val_main_v30 (F := Ideal) (m ((c : Thread nD τ).loc main_arg1)) (m ((c : Thread nD τ).loc main_arg2)) (m ((c : Thread nD τ).loc main_arg3))
        (m ((c : Thread nD τ).loc main_arg4)) (wide m c) := by
  unfold res_main_v30
  rw [reg_eq]
  rfl

/-- From memories that agree on the arguments, the reference's result matrix is the kernel's. -/
theorem res_eq_result (m₀ : (ℓ : Loc Cert.KernelIdeal.nD Cert.KernelIdeal.τ Cert.KernelIdeal.sig) → Buf (Elt Ideal) ℓ) (c : Dev nD)
    (h0 : m ((c : Thread nD τ).loc main_arg0) = m₀ ((c : Thread nD τ).loc Cert.KernelIdeal.main_arg0))
    (h1 : m ((c : Thread nD τ).loc main_arg1) = m₀ ((c : Thread nD τ).loc Cert.KernelIdeal.main_arg1))
    (h2 : m ((c : Thread nD τ).loc main_arg2) = m₀ ((c : Thread nD τ).loc Cert.KernelIdeal.main_arg2))
    (h3 : m ((c : Thread nD τ).loc main_arg3) = m₀ ((c : Thread nD τ).loc Cert.KernelIdeal.main_arg3))
    (h4 : m ((c : Thread nD τ).loc main_arg4) = m₀ ((c : Thread nD τ).loc Cert.KernelIdeal.main_arg4)) :
    (res_main_v30 m c : Vec Ideal S8x4096x4096 .f32) = Cert.KernelIdeal.Result.result m₀ c := by
  rw [res_eq, h1, h2, h3, h4]
  refine funext fun (x : S8x4096x4096.Idx) => ?_
  obtain ⟨e, i, j, rfl⟩ : ∃ (e : Fin 8) (i j : Fin 4096), x = ix3 e i j :=
    ⟨x 0, x 1, x 2, funext fun a => match a with | ⟨0, _⟩ => rfl | ⟨1, _⟩ => rfl | ⟨2, _⟩ => rfl⟩
  refine (v30_at ..).trans ?_
  show _ = Cert.KernelIdeal.Result.entry _ _ _ _ (Cert.KernelIdeal.Gen.V m₀ c Cert.KernelIdeal.main_v3)
    (Cert.KernelIdeal.Gen.V m₀ c Cert.KernelIdeal.main_v5) e i j
  rw [Cert.KernelIdeal.Blocks.V_v3, Cert.KernelIdeal.Blocks.V_v5]
  unfold Cert.KernelIdeal.Result.entry
  refine congrArg₂ (· + ·) rfl (congrArg₂ (· * ·) rfl (Finset.sum_congr rfl fun r _ => ?_))
  unfold Cert.KernelIdeal.Result.prod wide
  rw [h0]

end Cert.ReferenceIdeal.RefValue
end
-- ==== Proof.lean ====
module

public import proofs.«01_k».proof.Proof.Gen.ReferenceIdeal.Run
public import proofs.«01_k».proof.Proof.Gen.ReferenceIdeal.Read
public import proofs.«01_k».proof.Proof.SizesKernel
public import proofs.«01_k».proof.Proof.RefValue
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_sizes_fit
public import Idealize.ShloMosaic.Adequacy
public import Idealize.ShloMosaic.Init

@[expose] public section

noncomputable section

namespace Cert.Proof

open Idealize.ShloMosaic Idealize.SL.Sem Cert.Kernel

/-- From memories that agree on the arguments, both programs end with the same result matrix and the same counts. -/
theorem algebraic [Cert.KernelIdeal.Facts] [Cert.ReferenceIdeal.Facts] [Cert.Pre_sizes_fit.Facts] :
    Cert.algebraic_KernelIdeal_ReferenceIdeal := fun m g m' g' hpre hargs =>
  ⟨fun c => Cert.KernelIdeal.Result.result m c,
    fun c => addi (m ((c.tc : Thread Cert.KernelIdeal.nD Cert.KernelIdeal.τ).loc Cert.KernelIdeal.main_arg4))
      (m ((c.tc : Thread Cert.KernelIdeal.nD Cert.KernelIdeal.τ).loc Cert.KernelIdeal.main_arg2)),
    Cert.KernelIdeal.Result.run m g hpre,
    (θ_run _ _ _).mono (fun _ hr c =>
      have h := hargs c
      ⟨(hr c).1.trans (Cert.ReferenceIdeal.RefValue.res_eq_result m' m c h.1 h.2.1 h.2.2.1 h.2.2.2.1 h.2.2.2.2),
        (hr c).2.1.trans (congrArg₂ addi h.2.2.2.2 h.2.2.1), (hr c).2.2⟩) (Cert.ReferenceIdeal.Value.run m' g')⟩

/-- The claim: the frames, the idealization, and the equality of the results. -/
theorem claim : Cert.Claim := ⟨Cert.Kernel.Gen.facts, Cert.KernelIdeal.Gen.facts, Cert.ReferenceIdeal.Gen.facts, Cert.Pre_sizes_fit.Gen.facts,
  fun m ρ h => Cert.Kernel.Sizes.frame_of_pre m ρ h,
  fun m ρ h => Cert.KernelIdeal.Sizes.frame_of_pre m ρ h,
  fun m ρ _ => Cert.ReferenceIdeal.Gen.frame m ρ,
  fun m ρ _ => Cert.ReferenceIdeal.Gen.frame m ρ,
  trivial,
  algebraic⟩

end Cert.Proof

end
